-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x1024 : Shape := ⟨3, ![4, 256, 1024]⟩
abbrev S1024x1024 : Shape := ⟨2, ![1024, 1024]⟩
abbrev S_ : Shape := ⟨0, ![]⟩

class Facts : Prop where
  bitsLt_bf16_f32 : FTy.bits .bf16 < FTy.bits .f32
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x256x1024 .bf16) (main_arg1 : FVec F S1024x1024 .bf16) (main_arg2 : FVec F S1024x1024 .bf16) (main_arg3 : FVec F S1024x1024 .bf16) (main_arg4 : FVec F S1024x1024 .bf16) : IVec S_ 1 :=
  let main_v0 : FVec F S4x256x1024 .f32 := (extf .f32 · bitsLt_bf16_f32) main_arg0
  let main_v1 : FVec F S4x256x1024 .f32 := Host.absf main_v0
  let main_cst : FVec F S_ .f32 := constant S_ .f32 0x7F800000#32
  let main_v2 : FVec F S4x256x1024 .f32 := broadcastInDim S4x256x1024 ![] bcast_S_S4x256x1024 main_cst
  let main_v3 : IVec S4x256x1024 1 := cmpf .olt main_v1 main_v2
  let main_c : IVec S_ 1 := constantI S_ 1 1#1
  let main_v4 : IVec S_ 1 := (fun x v => Host.reduce IntOp.andi x v reducesTo_S4x256x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : FVec F S1024x1024 .f32 := (extf .f32 · bitsLt_bf16_f32) main_arg3
  let main_v11 : FVec F S1024x1024 .f32 := Host.absf main_v10
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  let main_c_3 : IVec S_ 1 := constantI S_ 1 1#1
  let main_v14 : IVec S_ 1 := (fun x v => Host.reduce IntOp.andi x v reducesTo_S1024x1024_S_d0_1 h_S_) main_v13 main_c_3
  let main_v15 : IVec S_ 1 := andi main_v4 main_v9
  let main_v16 : IVec S_ 1 := andi main_v15 main_v14
  main_v16
-- ==== Pre_finite_ReferenceIdeal.lean ====
abbrev S4x256x1024 : Shape := ⟨3, ![4, 256, 1024]⟩
abbrev S1024x8192 : Shape := ⟨2, ![1024, 8192]⟩
abbrev S8192x1024 : Shape := ⟨2, ![8192, 1024]⟩
abbrev S_ : Shape := ⟨0, ![]⟩

class Facts : Prop where
  bitsLt_bf16_f32 : FTy.bits .bf16 < FTy.bits .f32
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S4x256x1024 .bf16) (main_arg1 : FVec F S1024x8192 .bf16) (main_arg2 : FVec F S8192x1024 .bf16) (main_arg3 : FVec F S1024x8192 .bf16) (main_arg4 : FVec F S1024x8192 .bf16) : IVec S_ 1 :=
  let main_v0 : FVec F S4x256x1024 .f32 := (extf .f32 · bitsLt_bf16_f32) main_arg0
  let main_v1 : FVec F S4x256x1024 .f32 := Host.absf main_v0
  let main_cst : FVec F S_ .f32 := constant S_ .f32 0x7F800000#32
  let main_v2 : FVec F S4x256x1024 .f32 := broadcastInDim S4x256x1024 ![] bcast_S_S4x256x1024 main_cst
  let main_v3 : IVec S4x256x1024 1 := cmpf .olt main_v1 main_v2
  let main_c : IVec S_ 1 := constantI S_ 1 1#1
  let main_v4 : IVec S_ 1 := (fun x v => Host.reduce IntOp.andi x v reducesTo_S4x256x1024_S_d0_1_2 h_S_) main_v3 main_c
  let main_v5 : FVec F S1024x8192 .f32 := (extf .f32 · bitsLt_bf16_f32) main_arg1
  let main_v6 : FVec F S1024x8192 .f32 := Host.absf main_v5
  let main_cst_0 : FVec F S_ .f32 := constant S_ .f32 0x7F800000#32
  let main_v7 : FVec F S1024x8192 .f32 := broadcastInDim S1024x8192 ![] bcast_S_S1024x8192 main_cst_0
  let main_v8 : IVec S1024x8192 1 := cmpf .olt main_v6 main_v7
  let main_c_1 : IVec S_ 1 := constantI S_ 1 1#1
  let main_v9 : IVec S_ 1 := (fun x v => Host.reduce IntOp.andi x v reducesTo_S1024x8192_S_d0_1 h_S_) main_v8 main_c_1
  let main_v10 : FVec F S1024x8192 .f32 := (extf .f32 · bitsLt_bf16_f32) main_arg3
  let main_v11 : FVec F S1024x8192 .f32 := Host.absf main_v10
  let main_cst_2 : FVec F S_ .f32 := constant S_ .f32 0x7F800000#32
  let main_v12 : FVec F S1024x8192 .f32 := broadcastInDim S1024x8192 ![] bcast_S_S1024x8192 main_cst_2
  let main_v13 : IVec S1024x8192 1 := cmpf .olt main_v11 main_v12
  let main_c_3 : IVec S_ 1 := constantI S_ 1 1#1
  let main_v14 : IVec S_ 1 := (fun x v => Host.reduce IntOp.andi x v reducesTo_S1024x8192_S_d0_1 h_S_) main_v13 main_c_3
  let main_v15 : IVec S_ 1 := andi main_v4 main_v9
  let main_v16 : IVec S_ 1 := andi main_v15 main_v14
  main_v16
-- ==== Kernel.lean ====
abbrev S4x256x1024 : Shape := ⟨3, ![4, 256, 1024]⟩
abbrev S1024x1024 : Shape := ⟨2, ![1024, 1024]⟩
abbrev S256x1024 : Shape := ⟨2, ![256, 1024]⟩
abbrev S128x1024 : Shape := ⟨2, ![128, 1024]⟩
abbrev S8x128x1024 : Shape := ⟨3, ![8, 128, 1024]⟩
abbrev S8 : Shape := ⟨1, ![8]⟩
abbrev S_ : Shape := ⟨0, ![]⟩
abbrev S1x256x1024 : Shape := ⟨3, ![1, 256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x128x1024 : Shape := ⟨3, ![1, 128, 1024]⟩
abbrev S1 : Shape := ⟨1, ![1]⟩

abbrev nBuf : Space → Nat
  | .hbm => 6
  | .vmem => 17
  | .smem => 0
  | _ => 0

abbrev bufTy : (tb : Table) → Fin (tcTables nBuf tb) → BufTy
  | .hbm, ⟨0, _⟩ => ⟨S4x256x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .local _ .vmem, ⟨0, _⟩ => ⟨S4x256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S128x1024, .f32⟩
  | .local _ .vmem, ⟨15, _⟩ => ⟨S8x128x1024, .bf16⟩
  | .local _ .vmem, ⟨16, _⟩ => ⟨S8x128x1024, .bf16⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_676 : BitVec 32 := 0#32
  let c0_i32_674 : BitVec 32 := 0#32
  let c1_i32_675 : BitVec 32 := 1#32
  let v1049 : BitVec 32 := Scalar.muli c0_i32_674 c1_i32_675
  let v1050 : BitVec 32 := Scalar.addi c0_i32_676 v1049
  v1050.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_676 : BitVec 32 := 0#32
  let c1_i32_674 : BitVec 32 := 1#32
  let c1_i32_675 : BitVec 32 := 1#32
  let v1049 : BitVec 32 := Scalar.muli c1_i32_674 c1_i32_675
  let v1050 : BitVec 32 := Scalar.addi c0_i32_676 v1049
  v1050.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_676 : BitVec 32 := 0#32
  let c2_i32_674 : BitVec 32 := 2#32
  let c1_i32_675 : BitVec 32 := 1#32
  let v1049 : BitVec 32 := Scalar.muli c2_i32_674 c1_i32_675
  let v1050 : BitVec 32 := Scalar.addi c0_i32_676 v1049
  v1050.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_676 : BitVec 32 := 0#32
  let c3_i32_674 : BitVec 32 := 3#32
  let c1_i32_675 : BitVec 32 := 1#32
  let v1049 : BitVec 32 := Scalar.muli c3_i32_674 c1_i32_675
  let v1050 : BitVec 32 := Scalar.addi c0_i32_676 v1049
  v1050.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_676 : BitVec 32 := 0#32
  let c4_i32_674 : BitVec 32 := 4#32
  let c1_i32_675 : BitVec 32 := 1#32
  let v1049 : BitVec 32 := Scalar.muli c4_i32_674 c1_i32_675
  let v1050 : BitVec 32 := Scalar.addi c0_i32_676 v1049
  v1050.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_676 : BitVec 32 := 0#32
  let c5_i32_674 : BitVec 32 := 5#32
  let c1_i32_675 : BitVec 32 := 1#32
  let v1049 : BitVec 32 := Scalar.muli c5_i32_674 c1_i32_675
  let v1050 : BitVec 32 := Scalar.addi c0_i32_676 v1049
  v1050.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_676 : BitVec 32 := 0#32
  let c6_i32_674 : BitVec 32 := 6#32
  let c1_i32_675 : BitVec 32 := 1#32
  let v1049 : BitVec 32 := Scalar.muli c6_i32_674 c1_i32_675
  let v1050 : BitVec 32 := Scalar.addi c0_i32_676 v1049
  v1050.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_676 : BitVec 32 := 0#32
  let c7_i32_674 : BitVec 32 := 7#32
  let c1_i32_675 : BitVec 32 := 1#32
  let v1049 : BitVec 32 := Scalar.muli c7_i32_674 c1_i32_675
  let v1050 : BitVec 32 := Scalar.addi c0_i32_676 v1049
  v1050.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_146 : BitVec 32 := 0#32
  let v243 : BitVec 1 := Scalar.cmpi .ne v2 c0_i32_146
  let v244 : BitVec 32 := Scalar.extui v243
  let c0_i32_147 : BitVec 32 := 0#32
  let v245 : BitVec 1 := Scalar.cmpi .ne v244 c0_i32_147
  v245

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_681 : BitVec 32 := 0#32
  let c0_i32_682 : BitVec 32 := 0#32
  ![v2.toNat, 0, 0]
def k0_dev9 : Nat :=
  let c0_i32_680 : BitVec 32 := 0#32
  let c0_i32_678 : BitVec 32 := 0#32
  let c1_i32_679 : BitVec 32 := 1#32
  let v1053 : BitVec 32 := Scalar.muli c0_i32_678 c1_i32_679
  let v1054 : BitVec 32 := Scalar.addi c0_i32_680 v1053
  v1054.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_150 : BitVec 32 := 1#32
  let v250 : BitVec 1 := Scalar.cmpi .ne v2 c1_i32_150
  let v251 : BitVec 32 := Scalar.extui v250
  let c0_i32_151 : BitVec 32 := 0#32
  let v252 : BitVec 1 := Scalar.cmpi .ne v251 c0_i32_151
  v252

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_681 : BitVec 32 := 0#32
  let c0_i32_682 : BitVec 32 := 0#32
  ![v2.toNat, 0, 0]
def k0_dev10 : Nat :=
  let c0_i32_680 : BitVec 32 := 0#32
  let c1_i32_678 : BitVec 32 := 1#32
  let c1_i32_679 : BitVec 32 := 1#32
  let v1053 : BitVec 32 := Scalar.muli c1_i32_678 c1_i32_679
  let v1054 : BitVec 32 := Scalar.addi c0_i32_680 v1053
  v1054.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_280 : BitVec 32 := 2#32
  let v448 : BitVec 1 := Scalar.cmpi .ne v2 c2_i32_280
  let v449 : BitVec 32 := Scalar.extui v448
  let c0_i32_281 : BitVec 32 := 0#32
  let v450 : BitVec 1 := Scalar.cmpi .ne v449 c0_i32_281
  v450

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_681 : BitVec 32 := 0#32
  let c0_i32_682 : BitVec 32 := 0#32
  ![v2.toNat, 0, 0]
def k0_dev11 : Nat :=
  let c0_i32_680 : BitVec 32 := 0#32
  let c2_i32_678 : BitVec 32 := 2#32
  let c1_i32_679 : BitVec 32 := 1#32
  let v1053 : BitVec 32 := Scalar.muli c2_i32_678 c1_i32_679
  let v1054 : BitVec 32 := Scalar.addi c0_i32_680 v1053
  v1054.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_284 : BitVec 32 := 3#32
  let v455 : BitVec 1 := Scalar.cmpi .ne v2 c3_i32_284
  let v456 : BitVec 32 := Scalar.extui v455
  let c0_i32_285 : BitVec 32 := 0#32
  let v457 : BitVec 1 := Scalar.cmpi .ne v456 c0_i32_285
  v457

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_681 : BitVec 32 := 0#32
  let c0_i32_682 : BitVec 32 := 0#32
  ![v2.toNat, 0, 0]
def k0_dev12 : Nat :=
  let c0_i32_680 : BitVec 32 := 0#32
  let c3_i32_678 : BitVec 32 := 3#32
  let c1_i32_679 : BitVec 32 := 1#32
  let v1053 : BitVec 32 := Scalar.muli c3_i32_678 c1_i32_679
  let v1054 : BitVec 32 := Scalar.addi c0_i32_680 v1053
  v1054.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_414 : BitVec 32 := 4#32
  let v653 : BitVec 1 := Scalar.cmpi .ne v2 c4_i32_414
  let v654 : BitVec 32 := Scalar.extui v653
  let c0_i32_415 : BitVec 32 := 0#32
  let v655 : BitVec 1 := Scalar.cmpi .ne v654 c0_i32_415
  v655

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_681 : BitVec 32 := 0#32
  let c0_i32_682 : BitVec 32 := 0#32
  ![v2.toNat, 0, 0]
def k0_dev13 : Nat :=
  let c0_i32_680 : BitVec 32 := 0#32
  let c4_i32_678 : BitVec 32 := 4#32
  let c1_i32_679 : BitVec 32 := 1#32
  let v1053 : BitVec 32 := Scalar.muli c4_i32_678 c1_i32_679
  let v1054 : BitVec 32 := Scalar.addi c0_i32_680 v1053
  v1054.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_418 : BitVec 32 := 5#32
  let v660 : BitVec 1 := Scalar.cmpi .ne v2 c5_i32_418
  let v661 : BitVec 32 := Scalar.extui v660
  let c0_i32_419 : BitVec 32 := 0#32
  let v662 : BitVec 1 := Scalar.cmpi .ne v661 c0_i32_419
  v662

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_681 : BitVec 32 := 0#32
  let c0_i32_682 : BitVec 32 := 0#32
  ![v2.toNat, 0, 0]
def k0_dev14 : Nat :=
  let c0_i32_680 : BitVec 32 := 0#32
  let c5_i32_678 : BitVec 32 := 5#32
  let c1_i32_679 : BitVec 32 := 1#32
  let v1053 : BitVec 32 := Scalar.muli c5_i32_678 c1_i32_679
  let v1054 : BitVec 32 := Scalar.addi c0_i32_680 v1053
  v1054.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_548 : BitVec 32 := 6#32
  let v858 : BitVec 1 := Scalar.cmpi .ne v2 c6_i32_548
  let v859 : BitVec 32 := Scalar.extui v858
  let c0_i32_549 : BitVec 32 := 0#32
  let v860 : BitVec 1 := Scalar.cmpi .ne v859 c0_i32_549
  v860

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_681 : BitVec 32 := 0#32
  let c0_i32_682 : BitVec 32 := 0#32
  ![v2.toNat, 0, 0]
def k0_dev15 : Nat :=
  let c0_i32_680 : BitVec 32 := 0#32
  let c6_i32_678 : BitVec 32 := 6#32
  let c1_i32_679 : BitVec 32 := 1#32
  let v1053 : BitVec 32 := Scalar.muli c6_i32_678 c1_i32_679
  let v1054 : BitVec 32 := Scalar.addi c0_i32_680 v1053
  v1054.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_552 : BitVec 32 := 7#32
  let v865 : BitVec 1 := Scalar.cmpi .ne v2 c7_i32_552
  let v866 : BitVec 32 := Scalar.extui v865
  let c0_i32_553 : BitVec 32 := 0#32
  let v867 : BitVec 1 := Scalar.cmpi .ne v866 c0_i32_553
  v867

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_681 : BitVec 32 := 0#32
  let c0_i32_682 : BitVec 32 := 0#32
  ![v2.toNat, 0, 0]
def k0_dev16 : Nat :=
  let c0_i32_680 : BitVec 32 := 0#32
  let c7_i32_678 : BitVec 32 := 7#32
  let c1_i32_679 : BitVec 32 := 1#32
  let v1053 : BitVec 32 := Scalar.muli c7_i32_678 c1_i32_679
  let v1054 : BitVec 32 := Scalar.addi c0_i32_680 v1053
  v1054.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v974 : BitVec 32 := Scalar.muli v2 c128_i32
  let v975 : Index := Scalar.indexCast v974
  let c0_624 : Index := 0#32
  ![v975.toNat, 0]
def k0_cond49 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_625 : BitVec 32 := 0#32
  let v977 : BitVec 1 := Scalar.cmpi .ne v2 c0_i32_625
  let v978 : BitVec 32 := Scalar.extui v977
  let c0_i32_626 : BitVec 32 := 0#32
  let v979 : BitVec 1 := Scalar.cmpi .ne v978 c0_i32_626
  v979

def k0_off18 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
def k0_dev17 : Nat :=
  let c0_i32_677 : BitVec 32 := 0#32
  let c0_i32_675 : BitVec 32 := 0#32
  let c1_i32_676 : BitVec 32 := 1#32
  let v1050 : BitVec 32 := Scalar.muli c0_i32_675 c1_i32_676
  let v1051 : BitVec 32 := Scalar.addi c0_i32_677 v1050
  v1051.toNat
def k0_cond50 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_627 : BitVec 32 := 1#32
  let v980 : BitVec 1 := Scalar.cmpi .ne v2 c1_i32_627
  let v981 : BitVec 32 := Scalar.extui v980
  let c0_i32_628 : BitVec 32 := 0#32
  let v982 : BitVec 1 := Scalar.cmpi .ne v981 c0_i32_628
  v982

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
def k0_dev18 : Nat :=
  let c0_i32_677 : BitVec 32 := 0#32
  let c1_i32_675 : BitVec 32 := 1#32
  let c1_i32_676 : BitVec 32 := 1#32
  let v1050 : BitVec 32 := Scalar.muli c1_i32_675 c1_i32_676
  let v1051 : BitVec 32 := Scalar.addi c0_i32_677 v1050
  v1051.toNat
def k0_cond51 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_629 : BitVec 32 := 2#32
  let v983 : BitVec 1 := Scalar.cmpi .ne v2 c2_i32_629
  let v984 : BitVec 32 := Scalar.extui v983
  let c0_i32_630 : BitVec 32 := 0#32
  let v985 : BitVec 1 := Scalar.cmpi .ne v984 c0_i32_630
  v985

def k0_off22 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
def k0_dev19 : Nat :=
  let c0_i32_677 : BitVec 32 := 0#32
  let c2_i32_675 : BitVec 32 := 2#32
  let c1_i32_676 : BitVec 32 := 1#32
  let v1050 : BitVec 32 := Scalar.muli c2_i32_675 c1_i32_676
  let v1051 : BitVec 32 := Scalar.addi c0_i32_677 v1050
  v1051.toNat
def k0_cond52 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_631 : BitVec 32 := 3#32
  let v986 : BitVec 1 := Scalar.cmpi .ne v2 c3_i32_631
  let v987 : BitVec 32 := Scalar.extui v986
  let c0_i32_632 : BitVec 32 := 0#32
  let v988 : BitVec 1 := Scalar.cmpi .ne v987 c0_i32_632
  v988

def k0_off24 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
def k0_dev20 : Nat :=
  let c0_i32_677 : BitVec 32 := 0#32
  let c3_i32_675 : BitVec 32 := 3#32
  let c1_i32_676 : BitVec 32 := 1#32
  let v1050 : BitVec 32 := Scalar.muli c3_i32_675 c1_i32_676
  let v1051 : BitVec 32 := Scalar.addi c0_i32_677 v1050
  v1051.toNat
def k0_cond53 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_633 : BitVec 32 := 4#32
  let v989 : BitVec 1 := Scalar.cmpi .ne v2 c4_i32_633
  let v990 : BitVec 32 := Scalar.extui v989
  let c0_i32_634 : BitVec 32 := 0#32
  let v991 : BitVec 1 := Scalar.cmpi .ne v990 c0_i32_634
  v991

def k0_off26 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
def k0_dev21 : Nat :=
  let c0_i32_677 : BitVec 32 := 0#32
  let c4_i32_675 : BitVec 32 := 4#32
  let c1_i32_676 : BitVec 32 := 1#32
  let v1050 : BitVec 32 := Scalar.muli c4_i32_675 c1_i32_676
  let v1051 : BitVec 32 := Scalar.addi c0_i32_677 v1050
  v1051.toNat
def k0_cond54 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_635 : BitVec 32 := 5#32
  let v992 : BitVec 1 := Scalar.cmpi .ne v2 c5_i32_635
  let v993 : BitVec 32 := Scalar.extui v992
  let c0_i32_636 : BitVec 32 := 0#32
  let v994 : BitVec 1 := Scalar.cmpi .ne v993 c0_i32_636
  v994

def k0_off28 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
def k0_dev22 : Nat :=
  let c0_i32_677 : BitVec 32 := 0#32
  let c5_i32_675 : BitVec 32 := 5#32
  let c1_i32_676 : BitVec 32 := 1#32
  let v1050 : BitVec 32 := Scalar.muli c5_i32_675 c1_i32_676
  let v1051 : BitVec 32 := Scalar.addi c0_i32_677 v1050
  v1051.toNat
def k0_cond55 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_637 : BitVec 32 := 6#32
  let v995 : BitVec 1 := Scalar.cmpi .ne v2 c6_i32_637
  let v996 : BitVec 32 := Scalar.extui v995
  let c0_i32_638 : BitVec 32 := 0#32
  let v997 : BitVec 1 := Scalar.cmpi .ne v996 c0_i32_638
  v997

def k0_off30 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
def k0_dev23 : Nat :=
  let c0_i32_677 : BitVec 32 := 0#32
  let c6_i32_675 : BitVec 32 := 6#32
  let c1_i32_676 : BitVec 32 := 1#32
  let v1050 : BitVec 32 := Scalar.muli c6_i32_675 c1_i32_676
  let v1051 : BitVec 32 := Scalar.addi c0_i32_677 v1050
  v1051.toNat
def k0_cond56 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_639 : BitVec 32 := 7#32
  let v998 : BitVec 1 := Scalar.cmpi .ne v2 c7_i32_639
  let v999 : BitVec 32 := Scalar.extui v998
  let c0_i32_640 : BitVec 32 := 0#32
  let v1000 : BitVec 1 := Scalar.cmpi .ne v999 c0_i32_640
  v1000

def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
def k0_dev24 : Nat :=
  let c0_i32_677 : BitVec 32 := 0#32
  let c7_i32_675 : BitVec 32 := 7#32
  let c1_i32_676 : BitVec 32 := 1#32
  let v1050 : BitVec 32 := Scalar.muli c7_i32_675 c1_i32_676
  let v1051 : BitVec 32 := Scalar.addi c0_i32_677 v1050
  v1051.toNat
def k0_cond65 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_657 : BitVec 32 := 0#32
  let v1025 : BitVec 1 := Scalar.cmpi .ne v2 c0_i32_657
  let v1026 : BitVec 32 := Scalar.extui v1025
  let c0_i32_658 : BitVec 32 := 0#32
  let v1027 : BitVec 1 := Scalar.cmpi .ne v1026 c0_i32_658
  v1027

def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
def k0_cond66 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_659 : BitVec 32 := 1#32
  let v1028 : BitVec 1 := Scalar.cmpi .ne v2 c1_i32_659
  let v1029 : BitVec 32 := Scalar.extui v1028
  let c0_i32_660 : BitVec 32 := 0#32
  let v1030 : BitVec 1 := Scalar.cmpi .ne v1029 c0_i32_660
  v1030

def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
def k0_cond67 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_661 : BitVec 32 := 2#32
  let v1031 : BitVec 1 := Scalar.cmpi .ne v2 c2_i32_661
  let v1032 : BitVec 32 := Scalar.extui v1031
  let c0_i32_662 : BitVec 32 := 0#32
  let v1033 : BitVec 1 := Scalar.cmpi .ne v1032 c0_i32_662
  v1033

def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
def k0_cond68 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_663 : BitVec 32 := 3#32
  let v1034 : BitVec 1 := Scalar.cmpi .ne v2 c3_i32_663
  let v1035 : BitVec 32 := Scalar.extui v1034
  let c0_i32_664 : BitVec 32 := 0#32
  let v1036 : BitVec 1 := Scalar.cmpi .ne v1035 c0_i32_664
  v1036

def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
def k0_cond69 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_665 : BitVec 32 := 4#32
  let v1037 : BitVec 1 := Scalar.cmpi .ne v2 c4_i32_665
  let v1038 : BitVec 32 := Scalar.extui v1037
  let c0_i32_666 : BitVec 32 := 0#32
  let v1039 : BitVec 1 := Scalar.cmpi .ne v1038 c0_i32_666
  v1039

def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
def k0_cond70 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_667 : BitVec 32 := 5#32
  let v1040 : BitVec 1 := Scalar.cmpi .ne v2 c5_i32_667
  let v1041 : BitVec 32 := Scalar.extui v1040
  let c0_i32_668 : BitVec 32 := 0#32
  let v1042 : BitVec 1 := Scalar.cmpi .ne v1041 c0_i32_668
  v1042

def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
def k0_cond71 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_669 : BitVec 32 := 6#32
  let v1043 : BitVec 1 := Scalar.cmpi .ne v2 c6_i32_669
  let v1044 : BitVec 32 := Scalar.extui v1043
  let c0_i32_670 : BitVec 32 := 0#32
  let v1045 : BitVec 1 := Scalar.cmpi .ne v1044 c0_i32_670
  v1045

def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
def k0_cond72 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_671 : BitVec 32 := 7#32
  let v1046 : BitVec 1 := Scalar.cmpi .ne v2 c7_i32_671
  let v1047 : BitVec 32 := Scalar.extui v1046
  let c0_i32_672 : BitVec 32 := 0#32
  let v1048 : BitVec 1 := Scalar.cmpi .ne v1047 c0_i32_672
  v1048

def k0_off41 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_673 : BitVec 32 := 128#32
  let v1049 : BitVec 32 := Scalar.muli v2 c128_i32_673
  let c0_i32_678 : BitVec 32 := 0#32
  ![v1049.toNat, 0]
abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4x256x1024 : Shape := ⟨3, ![4, 256, 1024]⟩
abbrev S1024x8192 : Shape := ⟨2, ![1024, 8192]⟩
abbrev S8192x1024 : Shape := ⟨2, ![8192, 1024]⟩
abbrev S4x256x8192 : Shape := ⟨3, ![4, 256, 8192]⟩
abbrev S4x256x64x128 : Shape := ⟨4, ![4, 256, 64, 128]⟩
abbrev S4x64x256x256 : Shape := ⟨4, ![4, 64, 256, 256]⟩
abbrev S_ : Shape := ⟨0, ![]⟩
abbrev S4x64x256 : Shape := ⟨3, ![4, 64, 256]⟩
abbrev S4x64x256x1 : Shape := ⟨4, ![4, 64, 256, 1]⟩
abbrev S4x64x128x256 : Shape := ⟨4, ![4, 64, 128, 256]⟩
abbrev S4x256x64x1 : Shape := ⟨4, ![4, 256, 64, 1]⟩
abbrev S1024x1024 : Shape := ⟨2, ![1024, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S1024x8192, .bf16⟩
  | .hbm, ⟨2, _⟩ => ⟨S8192x1024, .bf16⟩
  | .hbm, ⟨3, _⟩ => ⟨S1024x8192, .bf16⟩
  | .hbm, ⟨4, _⟩ => ⟨S1024x8192, .bf16⟩
  | .hbm, ⟨5, _⟩ => ⟨S4x256x1024, .f32⟩
  | .hbm, ⟨6, _⟩ => ⟨S1024x8192, .f32⟩
  | .hbm, ⟨7, _⟩ => ⟨S8192x1024, .f32⟩
  | .hbm, ⟨8, _⟩ => ⟨S1024x8192, .f32⟩
  | .hbm, ⟨9, _⟩ => ⟨S1024x8192, .f32⟩
  | .hbm, ⟨10, _⟩ => ⟨S4x256x8192, .f32⟩
  | .hbm, ⟨11, _⟩ => ⟨S4x256x64x128, .f32⟩
  | .hbm, ⟨12, _⟩ => ⟨S4x256x8192, .f32⟩
  | .hbm, ⟨13, _⟩ => ⟨S4x256x64x128, .f32⟩
  | .hbm, ⟨14, _⟩ => ⟨S4x256x8192, .f32⟩
  | .hbm, ⟨15, _⟩ => ⟨S4x256x64x128, .f32⟩
  | .hbm, ⟨16, _⟩ => ⟨S4x64x256x256, .f32⟩
  | .hbm, ⟨17, _⟩ => ⟨S_, .f32⟩
  | .hbm, ⟨18, _⟩ => ⟨S4x64x256x256, .f32⟩
  | .hbm, ⟨19, _⟩ => ⟨S4x64x256x256, .f32⟩
  | .hbm, ⟨20, _⟩ => ⟨S_, .f32⟩
  | .hbm, ⟨21, _⟩ => ⟨S4x64x256, .f32⟩
  | .hbm, ⟨22, _⟩ => ⟨S4x64x256x1, .f32⟩
  | .hbm, ⟨23, _⟩ => ⟨S4x64x256x256, .f32⟩
  | .hbm, ⟨24, _⟩ => ⟨S4x64x256x256, .f32⟩
  | .hbm, ⟨25, _⟩ => ⟨S4x64x256x256, .f32⟩
  | .hbm, ⟨26, _⟩ => ⟨S_, .f32⟩
  | .hbm, ⟨27, _⟩ => ⟨S4x64x256, .f32⟩
  | .hbm, ⟨28, _⟩ => ⟨S4x64x256x1, .f32⟩
  | .hbm, ⟨29, _⟩ => ⟨S4x64x128x256, .f32⟩
  | .hbm, ⟨30, _⟩ => ⟨S4x256x64x128, .f32⟩
  | .hbm, ⟨31, _⟩ => ⟨S4x256x64x1, .f32⟩
  | .hbm, ⟨32, _⟩ => ⟨S4x256x64x128, .f32⟩
  | .hbm, ⟨33, _⟩ => ⟨S4x256x64x128, .f32⟩
  | .hbm, ⟨34, _⟩ => ⟨S4x256x8192, .f32⟩
  | .hbm, ⟨35, _⟩ => ⟨S4x256x1024, .f32⟩
  | .hbm, ⟨36, _⟩ => ⟨S1024x1024, .f32⟩
  | .hbm, ⟨37, _⟩ => ⟨S1024x1024, .bf16⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Proof.Setup.lean ====
/-
  The kernel's memory regions, its semaphores as cells, and the values its buffers pass through, all at a symbolic device.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ShareLeaves
public import Idealize.ShloMosaic.Lib.Tactic
public import Idealize.ShloMosaic.Lib.Pipeline.FrameBody

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Memrefs -/

abbrev xM : Memref sig .tc .vmem S4x256x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev wkM : Memref sig .tc .vmem S1024x1024 .bf16 := Memref.whole cc0_stg3_0
abbrev wvM : Memref sig .tc .vmem S1024x1024 .bf16 := Memref.whole cc0_stg4_0
abbrev outM : Memref sig .tc .vmem S1024x1024 .bf16 := Memref.whole cc0_stg5_0
abbrev stM : Memref sig .tc .vmem S8x128x1024 .bf16 := Memref.whole cc0_scratch9
abbrev rsM : Memref sig .tc .vmem S8x128x1024 .bf16 := Memref.whole cc0_scratch10
abbrev redM : Memref sig .tc .vmem S128x1024 .f32 := Memref.whole cc0_scratch8

/-- Slot `t` of a buffer of eight chunks is inside it. -/
theorem inb_slot (t : Dev nD) : ∀ i, (![t.val, 0, 0] : Fin 3 → ℕ) i + S1x128x1024.size i ≤ S8x128x1024.size i := by revert t; decide
/-- Cell `t` of an array of eight semaphores is inside it. -/
theorem inb_sem (t : Dev nD) : ∀ i, (![t.val] : Fin 1 → ℕ) i + S1.size i ≤ S8.size i := by revert t; decide
/-- The 128 rows of chunk `t` are inside the output. -/
theorem inb_row (t : Dev nD) : ∀ i, (![128 * t.val, 0] : Fin 2 → ℕ) i + S128x1024.size i ≤ S1024x1024.size i := by revert t; decide

/-- Slot `t` of the staging buffer of outgoing chunks. -/
abbrev stS (t : Dev nD) : Memref sig .tc .vmem S128x1024 .bf16 :=
  (stM.slice (Rect.unit (s := S8x128x1024) ![t.val, 0, 0] S1x128x1024.size (inb_slot t)) (fun _ => rfl)).squeeze S128x1024 squeezes_S1x128x1024_S128x1024
/-- Slot `t` of the buffer where device `t`'s chunk lands. -/
abbrev rsS (t : Dev nD) : Memref sig .tc .vmem S128x1024 .bf16 :=
  (rsM.slice (Rect.unit (s := S8x128x1024) ![t.val, 0, 0] S1x128x1024.size (inb_slot t)) (fun _ => rfl)).squeeze S128x1024 squeezes_S1x128x1024_S128x1024
/-- The rows of the output that device `t` reduces. -/
abbrev outS (t : Dev nD) : Memref sig .tc .vmem S128x1024 .bf16 :=
  outM.slice (Rect.unit (s := S1024x1024) ![128 * t.val, 0] S128x1024.size (inb_row t)) (fun _ => rfl)

/-! ## Semaphores -/

/-- The runtime's barrier semaphore. -/
abbrev barS : Sem sig := (SemArray.scalar (sig.barrier 0 rfl) : Sems sig S_).sem
/-- The four arrays of transfer semaphores: scatter sent, scatter received, gather sent, gather received. -/
abbrev semArr : Fin 4 → DmaSems sig S8 := fun | 0 => cc0_scratch11 | 1 => cc0_scratch12 | 2 => cc0_scratch13 | 3 => cc0_scratch14
/-- Cell `t` of array `a`. -/
abbrev dsem (a : Fin 4) (t : Dev nD) : DmaSem sig :=
  (((semArr a).slice (Rect.unit (s := S8) ![t.val] S1.size (inb_sem t))).squeeze S_ squeezes_S1_S_).sem

/-- A device's cells: the barrier, and cell `t` of array `a`. -/
abbrev CK : Type := Unit ⊕ (Fin 4 × Dev nD)
abbrev csem : CK → SemLoc sig := fun | .inl _ => .reg barS | .inr (a, t) => .dma (dsem a t)
abbrev kcell (ck : Dev nD × CK) : GSem nD τ sig := ((ck.1 : Thread nD τ), csem ck.2)
abbrev barCell (c : Dev nD) : GSem nD τ sig := ((c : Thread nD τ), .reg barS)
abbrev dCell (c : Dev nD) (a : Fin 4) (t : Dev nD) : GSem nD τ sig := ((c : Thread nD τ), .dma (dsem a t))

/-- The cell a semaphore is, if it is one of these. -/
def code (s : SemLoc sig) : Option CK :=
  if s = .reg barS then some (.inl ())
  else (((List.finRange 4).flatMap fun a => (List.finRange nD).map fun t => (a, t)).find? fun p => decide (s = .dma (dsem p.1 p.2))).map .inr

/-- The barrier's semaphore, recognised. -/
theorem code_bar : code (.reg barS) = some (.inl ()) := if_pos rfl
/-- A transfer's semaphore, recognised. -/
theorem code_dma (a : Fin 4) (t : Dev nD) : code (.dma (dsem a t)) = some (.inr (a, t)) := by revert a t; decide +kernel
/-- Every cell's semaphore, recognised. -/
theorem code_csem (k : CK) : code (csem k) = some k := by
  rcases k with _ | ⟨a, t⟩
  · exact code_bar
  · exact code_dma a t
/-- A device's cells have distinct semaphores. -/
theorem csem_injective : Function.Injective csem := fun k k' h =>
  Option.some.inj ((code_csem k).symm.trans ((congrArg code h).trans (code_csem k')))
/-- All cells are distinct. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- What one transfer of a chunk adds to a semaphore. -/
abbrev N : ℕ := (rsS 0).view.dmaCredit
/-- A transfer is of a positive size. -/
theorem N_pos : 0 < N := View.dmaCredit_pos _ (by decide)
/-- The size of a transfer out of the staging buffer. -/
theorem credit_st (t : Dev nD) : (stS t).view.dmaCredit = N := by revert t; decide
/-- The size of a transfer into the receive buffer. -/
theorem credit_rs (t : Dev nD) : (rsS t).view.dmaCredit = N := by revert t; decide
/-- The size of a transfer of a chunk of the output. -/
theorem credit_out (t : Dev nD) : (outS t).view.dmaCredit = N := by revert t; decide

/-! ## Values -/

/-- Batch `b` of `x` is inside it. -/
theorem inb_x (b : Fin 4) : ∀ i, (![b.val, 0, 0] : Fin 3 → ℕ) i + S1x256x1024.size i ≤ S4x256x1024.size i := by revert b; decide
/-- Column block `h` of a batch's projection is inside it. -/
theorem inb_col (h : Fin 8) : ∀ i, (![0, 128 * h.val] : Fin 2 → ℕ) i + S256x128.size i ≤ S256x1024.size i := by revert h; decide
/-- Batch `b` of `x`, as the kernel loads it. -/
def xB (X : Vec F S4x256x1024 .bf16) (b : Fin 4) : Vec F S1x256x1024 .bf16 :=
  View.ld X (Rect.unit (s := S4x256x1024) ![b.val, 0, 0] S1x256x1024.size (inb_x b))
/-- Column block `h` (128 columns, one head) of a batch's projection. -/
def colB (v : Vec F S256x1024 .bf16) (h : Fin 8) : Vec F S256x128 .bf16 :=
  View.ld v (Rect.unit (s := S256x1024) ![0, 128 * h.val] S256x128.size (inb_col h))

end Cert.KProof
end
-- ==== Proof.Contents.lean ====
/-
  What the kernel's buffers hold, as functions of the arguments every device starts with: the chunk a device computes, the chunks that land
  on it, and the output all devices end with.
-/
module

public import proofs.«01_k».proof.Proof.Setup
public import Idealize.ShloMosaic.Lib.Pointwise.Index

@[expose] public section

noncomputable section

namespace Cert.KProof

open Cert.KernelIdeal Cert.KernelIdeal.Gen
open Idealize.ShloMosaic Idealize.ShloMosaic.TcCoe
open Idealize.SL.Sem

variable {F : FTy → Type} [FloatOps F]

/-- The arguments, as each device holds them: all of `x`, the device's columns of the three projections and its rows of the last one. -/
structure Ins (F : FTy → Type) [FloatOps F] where
  X : Dev nD → Vec F S4x256x1024 .bf16
  Wq : Dev nD → Vec F S1024x1024 .bf16
  Wo : Dev nD → Vec F S1024x1024 .bf16
  Wk : Dev nD → Vec F S1024x1024 .bf16
  Wv : Dev nD → Vec F S1024x1024 .bf16

/-- The attention of one batch on one device: head `h` in columns `128·h …`, computed from the heads' columns of the projections. -/
def attnV (q k v : Vec F S256x1024 .bf16) : Vec F S256x1024 .bf16 := fun i =>
  k0_pay10 (colB q ⟨(i 1).val / 128, Nat.div_lt_of_lt_mul (i 1).isLt⟩) (colB k ⟨(i 1).val / 128, Nat.div_lt_of_lt_mul (i 1).isLt⟩)
    (colB v ⟨(i 1).val / 128, Nat.div_lt_of_lt_mul (i 1).isLt⟩) (ix2 (n0 := 256) (n1 := 128) (i 0) ⟨(i 1).val % 128, Nat.mod_lt _ (by decide)⟩)

variable (I : Ins F)

/-- The attention device `c` computes for batch `b`. -/
def attnB (c : Dev nD) (b : Fin 4) : Vec F S256x1024 .bf16 :=
  attnV (k0_pay6 (xB (I.X c) b) (k0_pay1 (I.Wq c))) (k0_pay6 (xB (I.X c) b) (k0_pay2 (I.Wk c))) (k0_pay6 (xB (I.X c) b) (k0_pay3 (I.Wv c)))

/-- The batch chunk `t` of 128 rows lies in. -/
def bat (t : Dev nD) : Fin 4 := ⟨t.val / 2, Nat.div_lt_of_lt_mul t.isLt⟩

/-- What device `c` stages for device `t`: its part of the output's chunk `t`, rounded. -/
def stgV (c t : Dev nD) : Vec F S1x128x1024 .bf16 :=
  if t.val % 2 = 0 then k0_pay24 (attnB I c (bat t)) (k0_pay4 (I.Wo c)) else k0_pay27 (attnB I c (bat t)) (k0_pay4 (I.Wo c))

/-- Device `c`'s own part of its own chunk, not rounded. -/
def redV (c : Dev nD) : Vec F S128x1024 .f32 :=
  if c.val % 2 = 0 then k0_pay23 (attnB I c (bat c)) (k0_pay4 (I.Wo c)) else k0_pay26 (attnB I c (bat c)) (k0_pay4 (I.Wo c))

/-- What stands in slot `s` of device `c`'s receive buffer when it reduces: device `s`'s part of chunk `c`, and zeros in its own slot. -/
def slotV (c s : Dev nD) : Vec F S1x128x1024 .bf16 := if s = c then k0_pay98 else stgV I s c

/-- The whole receive buffer of device `c` when it reduces. -/
def rsC (c : Dev nD) : Vec F S8x128x1024 .bf16 := fun i => slotV I c (i 0) (ix3 (n0 := 1) (n1 := 128) (n2 := 1024) 0 (i 1) (i 2))

/-- Chunk `s` of the output, reduced. -/
def outRow (s : Dev nD) : Vec F S128x1024 .bf16 :=
  k0_pay107 (k0_pay106 (redV I s) (slotV I s 0) (slotV I s 1)) (slotV I s 2) (slotV I s 3) (slotV I s 4) (slotV I s 5) (slotV I s 6) (slotV I s 7)

/-- The whole output: chunk `s` in the rows `128·s …`. -/
def outC : Vec F S1024x1024 .bf16 := fun i =>
  outRow I ⟨(i 0).val / 128, Nat.div_lt_of_lt_mul (i 0).isLt⟩ (ix2 (n0 := 128) (n1 := 1024) ⟨(i 0).val % 128, Nat.mod_lt _ (by decide)⟩ (i 1))

/-- Slot `s` of the receive buffer, read as the kernel loads it. -/
theorem ld_rsC (c s : Dev nD) :
    View.ld (rsC I c) (Rect.unit (s := S8x128x1024) ![s.val, 0, 0] S1x128x1024.size (inb_slot s)) = slotV I c s := by
  funext i
  have h0 : (Rect.unit (s := S8x128x1024) ![s.val, 0, 0] S1x128x1024.size (inb_slot s)).toLoadRect.idx i = ix3 (n0 := 8) (n1 := 128) (n2 := 1024) s (i 1) (i 2) := by
    funext a
    match a with
    | ⟨0, _⟩ => exact Fin.ext (by show s.val + 1 * (i 0).val = s.val; have := (i 0).isLt; simp at this; omega)
    | ⟨1, _⟩ => exact Fin.ext (by show 0 + 1 * (i 1).val = (i 1).val; omega)
    | ⟨2, _⟩ => exact Fin.ext (by show 0 + 1 * (i 2).val = (i 2).val; omega)
  show rsC I c ((Rect.unit (s := S8x128x1024) ![s.val, 0, 0] S1x128x1024.size (inb_slot s)).toLoadRect.idx i) = _
  rw [h0]
  show slotV I c s (ix3 0 (i 1) (i 2)) = slotV I c s i
  congr 1
  funext a
  match a with
  | ⟨0, _⟩ => exact Fin.ext (by have := (i 0).isLt; simp at this; show 0 = (i 0).val; omega)
  | ⟨1, _⟩ => rfl
  | ⟨2, _⟩ => rfl

/-- Chunk `s` of the output, read back. -/
theorem ld_outC (s : Dev nD) :
    View.ld (outC I) (Rect.unit (s := S1024x1024) ![128 * s.val, 0] S128x1024.size (inb_row s)) = outRow I s := by
  funext i
  have hi : (i 0).val < 128 := (i 0).isLt
  have h0 : (Rect.unit (s := S1024x1024) ![128 * s.val, 0] S128x1024.size (inb_row s)).toLoadRect.idx i
      = ix2 (n0 := 1024) (n1 := 1024) ⟨128 * s.val + (i 0).val, by have := s.isLt; show _ < 1024; unfold nD at this; omega⟩ (i 1) := by
    funext a
    match a with
    | ⟨0, _⟩ => exact Fin.ext (by show 128 * s.val + 1 * (i 0).val = 128 * s.val + (i 0).val; omega)
    | ⟨1, _⟩ => exact Fin.ext (by show 0 + 1 * (i 1).val = (i 1).val; omega)
  show outC I ((Rect.unit (s := S1024x1024) ![128 * s.val, 0] S128x1024.size (inb_row s)).toLoadRect.idx i) = _
  rw [h0]
  unfold outC
  have e1 : (⟨(128 * s.val + (i 0).val) / 128, by have := s.isLt; unfold nD at this ⊢; omega⟩ : Dev nD) = s := Fin.ext (by show (128 * s.val + (i 0).val) / 128 = s.val; omega)
  have e2 : ix2 (n0 := 128) (n1 := 1024) ⟨(128 * s.val + (i 0).val) % 128, Nat.mod_lt _ (by decide)⟩ (i 1) = i := by
    funext a
    match a with
    | ⟨0, _⟩ => exact Fin.ext (by show (128 * s.val + (i 0).val) % 128 = (i 0).val; omega)
    | ⟨1, _⟩ => rfl
  exact congr (congrArg (outRow I) e1) e2

end Cert.KProof
end
-- ==== Proof.Schedule.lean ====
/-
  The protocol of the exchange: which cell is credited by whom, how much, and what the credit hands over. Every cell has one round.

  * a device's barrier cell: one unit from every other device `d`, which hands over slot `c` of `d`'s receive buffer and the rows of chunk
    `c` of `d`'s output, the two places the owner of the cell writes on `d`;
  * a device's cell `t` of array 0 (scatter, sent): the staged chunk for `t`, read;
  * cell `s` of array 1 (scatter, received): slot `s` of the receive buffer, with device `s`'s part of the chunk;
  * cell `t` of array 2 (gather, sent): one eighth of the device's own reduced rows, which are read by all the outgoing copies;
  * cell `s` of array 3 (gather, received): the rows of chunk `s` of the output, reduced.
-/
module

public import proofs.«01_k».proof.Proof.Contents

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Ins F)

/-! ## What is handed over -/

/-- Slot `t` of the staging buffer on device `c`, whatever it holds. -/
def stAny (c t : Dev nD) : sProp 𝕄 := iprop(∃ f, (stS t).view.loc (c : Thread nD τ) ↦[(stS t).view.set]{fullShare} f)
/-- Slot `t` of the receive buffer on device `c`, holding `f`. -/
def rsPts (c t : Dev nD) (f : Vec F S8x128x1024 .bf16) : sProp 𝕄 := (rsS t).view.loc (c : Thread nD τ) ↦[(rsS t).view.set]{fullShare} f
def rsAny (c t : Dev nD) : sProp 𝕄 := iprop(∃ f, rsPts (F := F) c t f)
/-- The rows of chunk `t` of the output on device `c`, at share `q`, holding `f`. -/
def outPts (c t : Dev nD) (q : PosShare TreeShare) (f : Vec F S1024x1024 .bf16) : sProp 𝕄 := (outS t).view.loc (c : Thread nD τ) ↦[(outS t).view.set]{q} f
def outAny (c t : Dev nD) : sProp 𝕄 := iprop(∃ f, outPts (F := F) c t fullShare f)
/-- Eighth `t` of device `c`'s own rows of the output. -/
abbrev lf (t : Dev nD) : PosShare TreeShare := ShareLeaves.leaf 3 fullShare t
/-- What device `d` hands device `c` with its barrier signal. -/
def barPay (c d : Dev nD) : sProp 𝕄 := iprop(rsAny (F := F) d c ∗ outAny (F := F) d c)
/-- What a transfer's credit on cell `t` of array `a` of device `c` hands over. -/
def xPay (c : Dev nD) : Fin 4 → Dev nD → sProp 𝕄
  | 0, t => stAny c t
  | 1, t => rsPts c t (rsC I c)
  | 2, t => outPts c c (lf t) (outC I)
  | 3, t => outPts c t fullShare (outC I)

instance stAny_storable (c t : Dev nD) : BI.Storable (upEmb : UEmb _ 𝕄) (stAny (F := F) c t) := by unfold stAny; infer_instance
instance rsPts_storable (c t : Dev nD) (f) : BI.Storable (upEmb : UEmb _ 𝕄) (rsPts (F := F) c t f) := by unfold rsPts; infer_instance
instance outPts_storable (c t : Dev nD) (q) (f) : BI.Storable (upEmb : UEmb _ 𝕄) (outPts (F := F) c t q f) := by unfold outPts; infer_instance
instance rsAny_storable (c t : Dev nD) : BI.Storable (upEmb : UEmb _ 𝕄) (rsAny (F := F) c t) := by unfold rsAny; infer_instance
instance outAny_storable (c t : Dev nD) : BI.Storable (upEmb : UEmb _ 𝕄) (outAny (F := F) c t) := by unfold outAny; infer_instance
instance barPay_storable (c d : Dev nD) : BI.Storable (upEmb : UEmb _ 𝕄) (barPay (F := F) c d) := by unfold barPay; infer_instance
instance xPay_storable (c : Dev nD) (a : Fin 4) (t : Dev nD) : BI.Storable (upEmb : UEmb _ 𝕄) (xPay I c a t) := by
  match a with
  | 0 => exact stAny_storable c t
  | 1 => exact rsPts_storable c t _
  | 2 => exact outPts_storable c c _ _
  | 3 => exact outPts_storable c t _ _

/-! ## The schedule -/

/-- Who credits cell `t` of array `a` of device `c`: the device itself the sent cells, device `t` the received ones. -/
def payer (c : Dev nD) : Fin 4 → Dev nD → Dev nD
  | 0, _ => c
  | 1, t => t
  | 2, _ => c
  | 3, t => t

def dutiesOf (c : Dev nD) : Option CK → Finset (Dev nD)
  | some (.inl _) => Finset.univ.erase c
  | some (.inr (a, t)) => if c = t then ∅ else {payer c a t}
  | none => ∅
def amountOf' : Option CK → ℕ
  | some (.inl _) => 1
  | some (.inr _) => N
  | none => 1
def payOf (c d : Dev nD) : Option CK → sProp 𝕄
  | some (.inl _) => barPay c d
  | some (.inr (a, t)) => xPay I c a t
  | none => iprop(emp)

/-- One round: who owes what to each cell, and what it hands over. -/
def Rd : Rounds.Schedule (GSem nD τ sig) (Dev nD) 𝕄 where
  duties g r := if r = 0 ∧ g.1.2 = .tc then dutiesOf g.1.1 (code g.2) else ∅
  unitless _ := False
  amount g _ _ := amountOf' (code g.2)
  payload g _ d := payOf I g.1.1 d (code g.2)
  amount_pos g _ _ _ := by
    rcases code g.2 with _ | (_ | _)
    · exact Nat.one_pos
    · exact Nat.one_pos
    · exact N_pos

instance Rd_payload_storable (g : GSem nD τ sig) (r : ℕ) (d : Dev nD) : BI.Storable (upEmb : UEmb _ 𝕄) ((Rd I).payload g r d) := by
  show BI.Storable upEmb (payOf I g.1.1 d (code g.2))
  rcases code g.2 with _ | (_ | ⟨a, t⟩)
  · unfold payOf; infer_instance
  · exact barPay_storable _ _
  · exact xPay_storable I _ a t

/-- Every other device has a duty on a barrier. -/
theorem duties_bar (c : Dev nD) : (Rd I).duties (barCell c) 0 = Finset.univ.erase c := by
  show (if (0 = 0 ∧ (barCell c).1.2 = .tc) then dutiesOf c (code (.reg barS)) else ∅) = _
  rw [if_pos ⟨rfl, rfl⟩, code_bar]; rfl
/-- One device has the duty on a transfer's cell. -/
theorem duties_x (c : Dev nD) (a : Fin 4) (t : Dev nD) (h : c ≠ t) : (Rd I).duties (dCell c a t) 0 = {payer c a t} := by
  show (if (0 = 0 ∧ (dCell c a t).1.2 = .tc) then dutiesOf c (code (.dma (dsem a t))) else ∅) = _
  rw [if_pos ⟨rfl, rfl⟩, code_dma]; exact if_neg h
/-- The cell of a device's transfer to itself is never used. -/
theorem duties_x_self (c : Dev nD) (a : Fin 4) (r : ℕ) : (Rd I).duties (dCell c a c) r = ∅ := by
  show (if (r = 0 ∧ (dCell c a c).1.2 = .tc) then dutiesOf c (code (.dma (dsem a c))) else ∅) = _
  rw [code_dma, show dutiesOf c (some (.inr (a, c))) = ∅ from if_pos rfl, ite_self]
/-- Every cell has one round. -/
theorem duties_later (g : GSem nD τ sig) : ∀ r, 1 ≤ r → (Rd I).duties g r = ∅ :=
  fun r hr => if_neg fun h => by omega

/-- A signal of the barrier is one. -/
theorem amount_bar (c d : Dev nD) : (Rd I).amount (barCell c) 0 d = 1 := by
  show amountOf' (code (.reg barS)) = 1
  rw [code_bar]; rfl
/-- A transfer credits its size. -/
theorem amount_x (c : Dev nD) (a : Fin 4) (t d : Dev nD) : (Rd I).amount (dCell c a t) 0 d = N := by
  show amountOf' (code (.dma (dsem a t))) = N
  rw [code_dma]; rfl
/-- What a signal of the barrier hands over. -/
theorem payload_bar (c d : Dev nD) : (Rd I).payload (barCell c) 0 d = barPay c d := by
  show payOf I c d (code (.reg barS)) = _
  rw [code_bar]; rfl
/-- What a transfer hands over. -/
theorem payload_x (c : Dev nD) (a : Fin 4) (t d : Dev nD) : (Rd I).payload (dCell c a t) 0 d = xPay I c a t := by
  show payOf I c d (code (.dma (dsem a t))) = _
  rw [code_dma]; rfl

/-- A barrier expects seven. -/
theorem expect_bar (c : Dev nD) : (Rd I).expect (barCell c) 0 = 7 := by
  unfold Schedule.expect Schedule.amountOf
  rw [duties_bar, Finset.sum_congr rfl fun d _ => amount_bar I c d, Finset.sum_const, smul_eq_mul, mul_one]
  revert c; decide
/-- A transfer's cell expects one transfer. -/
theorem expect_x (c : Dev nD) (a : Fin 4) (t : Dev nD) (h : c ≠ t) : (Rd I).expect (dCell c a t) 0 = N := by
  unfold Schedule.expect Schedule.amountOf
  rw [duties_x I c a t h, Finset.sum_singleton, amount_x]

/-- All that a barrier's round hands over. -/
theorem rest_bar (c : Dev nD) : bigSep ((Rd I).duties (barCell c) 0 \ ∅) (fun d => (Rd I).payload (barCell c) 0 d) = bigSep (Finset.univ.erase c) fun d => barPay c d := by
  rw [Finset.sdiff_empty, duties_bar]
  exact bigSep_congr fun d _ => payload_bar I c d
/-- All that a transfer's round hands over. -/
theorem rest_x (c : Dev nD) (a : Fin 4) (t : Dev nD) (h : c ≠ t) :
    bigSep ((Rd I).duties (dCell c a t) 0 \ ∅) (fun d => (Rd I).payload (dCell c a t) 0 d) = xPay I c a t := by
  rw [Finset.sdiff_empty, duties_x I c a t h, bigSep_singleton, payload_x]

/-! ## What a device owes, and the levels -/

/-- A device's debt to peer `t` in each of the three phases: a barrier unit, a scattered chunk, a gathered chunk. -/
def barO (c t : Dev nD) : CellTallies nD τ sig Unit := if c = t then 0 else tallyAt (barCell t) () 1
def rsO (c t : Dev nD) : CellTallies nD τ sig Unit := if c = t then 0 else tallyAt (dCell t 1 c) () N
def agO (c t : Dev nD) : CellTallies nD τ sig Unit := if c = t then 0 else tallyAt (dCell t 3 c) () N
/-- The debts to a list of peers, the first one on top. -/
def owe (f : Dev nD → CellTallies nD τ sig Unit) : List (Dev nD) → CellTallies nD τ sig Unit
  | [] => 0
  | t :: ts => owe f ts + f t
/-- The peers, in the order the kernel meets them. -/
abbrev peers : List (Dev nD) := [0, 1, 2, 3, 4, 5, 6, 7]
/-- All a device owes at launch. -/
def O₀ (c : Dev nD) : CellTallies nD τ sig Unit := owe (agO c) peers + owe (rsO c) peers + owe (barO c) peers

def L (g : GSem nD τ sig) : Finset Unit := if g.1.2 = .tc then {()} else ∅
/-- Barrier cells at 1, scatter-received cells at 2, gather-received cells at 3, everything else at 0. -/
def lvOf : Option CK → ℕ
  | some (.inl _) => 1
  | some (.inr (1, _)) => 2
  | some (.inr (3, _)) => 3
  | _ => 0
def lv (g : GSem nD τ sig) (_ : Unit) : ℕ := lvOf (code g.2)

/-- Only the TensorCores' cells are used. -/
theorem L_of_ne (g : GSem nD τ sig) (h : g.1.2 ≠ .tc) : L g = ∅ := if_neg h
/-- A TensorCore's cells have one index. -/
theorem L_tc (c : Dev nD) (sm : SemLoc sig) : L ((c : Thread nD τ), sm) = {()} := if_pos rfl
/-- The barrier's level. -/
theorem lv_bar (c : Dev nD) (u : Unit) : lv (barCell c) u = 1 := by unfold lv; rw [code_bar]; rfl
/-- A transfer cell's level. -/
theorem lv_x (c : Dev nD) (a : Fin 4) (t : Dev nD) (u : Unit) : lv (dCell c a t) u = lvOf (some (.inr (a, t))) := by unfold lv; rw [code_dma]

/-- A cell owed at all is a TensorCore cell above level `k`. -/
def Above (k : ℕ) (O : CellTallies nD τ sig Unit) : Prop := ∀ g u, 0 < O g u → g.1.2 = .tc ∧ k < lv g u

/-- Owing nothing counts as above any level. -/
theorem Above.zero (k : ℕ) : Above k 0 := fun g u h => absurd h (Nat.lt_irrefl 0)
/-- Two debts above a level are above it together. -/
theorem Above.add {k : ℕ} {O O' : CellTallies nD τ sig Unit} (h : Above k O) (h' : Above k O') : Above k (O + O') := fun g u hg => by
  rw [Pi.add_apply, Finsupp.add_apply] at hg
  rcases Nat.eq_zero_or_pos (O g u) with h0 | h0
  · exact h' g u (by omega)
  · exact h g u h0
/-- A debt to one cell is above the levels below the cell's. -/
theorem Above.tally {k : ℕ} {g : GSem nD τ sig} {n : ℕ} (hg : g.1.2 = .tc) (hk : k < lv g ()) : Above k (tallyAt g () n) := fun g' u h => by
  rw [tallyAt_apply] at h
  by_cases h' : g' = g ∧ u = ()
  · rw [h'.1]; exact ⟨hg, hk⟩
  · rw [if_neg h'] at h; exact absurd h (Nat.lt_irrefl 0)
/-- A debt to a list of peers is above a level when every peer's is. -/
theorem Above.owe {k : ℕ} {f : Dev nD → CellTallies nD τ sig Unit} (h : ∀ t, Above k (f t)) : ∀ l, Above k (owe f l)
  | [] => Above.zero k
  | t :: ts => (Above.owe h ts).add (h t)
/-- The barrier's debts are above level 0. -/
theorem above_bar (c t : Dev nD) : Above 0 (barO c t) := by
  unfold barO; split
  · exact Above.zero _
  · exact Above.tally rfl (by rw [lv_bar]; decide)
/-- The scatter's debts are above levels 0 and 1. -/
theorem above_rs {k : ℕ} (hk : k < 2) (c t : Dev nD) : Above k (rsO c t) := by
  unfold rsO; split
  · exact Above.zero _
  · exact Above.tally rfl (by rw [lv_x]; exact hk)
/-- The gather's debts are above levels 0 to 2. -/
theorem above_ag {k : ℕ} (hk : k < 3) (c t : Dev nD) : Above k (agO c t) := by
  unfold agO; split
  · exact Above.zero _
  · exact Above.tally rfl (by rw [lv_x]; exact hk)
/-- All that is owed at the start is above level 0. -/
theorem above_O₀ (c : Dev nD) : Above 0 (O₀ c) :=
  ((Above.owe (above_ag (by decide) c) _).add (Above.owe (above_rs (by decide) c) _)).add (Above.owe (above_bar c) _)

/-- A device may wait on a cell below everything it owes. -/
theorem mayWait_above (c : Dev nD) (sm : SemLoc sig) (O : CellTallies nD τ sig Unit) (k : ℕ) (hsm : lv ((c : Thread nD τ), sm) () ≤ k) (hO : Above k O) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

end Cert.KProof
end
-- ==== Proof.Blocks.lean ====
/-
  The guarded blocks of the exchange, each at a symbolic peer `t`: what a device does towards peer `t` when `t` is another device, and
  that it does nothing otherwise.
-/
module

public import proofs.«01_k».proof.Proof.Schedule
public import Idealize.ShloMosaic.Lib.Pipeline.Value

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Ins F)

abbrev 𝒱₀ : Variants := Variants.none
/-- The weakest precondition of a program of device `c`. -/
abbrev WP (c : Dev nD) {α : Type} (p : Prog (TpuEff nD τ sig (Elt F) Λ₀ .tc) α) (Φ : α → sProp 𝕄) : sProp 𝕄 :=
  wp frame (wpE (defs₀ (F := F)) 𝒱₀ (c : Thread nD τ) none) Set.univ p Φ

/-! ## What every step may use -/

/-- Every cell's invariant, under the names the launch gave. -/
def invs (K : Dev nD × CK → ℕ) : sProp 𝕄 := bigSep Finset.univ fun p : Dev nD × CK => cellInv ER (Rd I) (K p) (kcell p)
/-- Every cell has reached its round. -/
def rch : sProp 𝕄 := bigSep Finset.univ fun p : Dev nD × CK => reached ER (kcell p) 0
def ctx (K : Dev nD × CK → ℕ) : sProp 𝕄 := iprop(invs I K ∗ rch ∗ levAts L lv)

instance invs_persistent (K : Dev nD × CK → ℕ) : BI.Persistent (invs I K) := by unfold invs; infer_instance
instance rch_persistent : BI.Persistent (rch (F := F)) := by unfold rch; infer_instance
instance ctx_persistent (K : Dev nD × CK → ℕ) : BI.Persistent (ctx I K) := by unfold ctx; infer_instance

variable (K : Dev nD × CK → ℕ)

/-- The barrier's invariant, out of all of them. -/
theorem inv_bar (c : Dev nD) : invs I K ⊢ cellInv ER (Rd I) (K (c, .inl ())) (barCell c) := bigSep_elim (Finset.mem_univ (c, (.inl () : CK)))
/-- A transfer cell's invariant, out of all of them. -/
theorem inv_x (c : Dev nD) (a : Fin 4) (t : Dev nD) : invs I K ⊢ cellInv ER (Rd I) (K (c, .inr (a, t))) (dCell c a t) :=
  bigSep_elim (Finset.mem_univ (c, (.inr (a, t) : CK)))
/-- The barrier's cell has reached its first round. -/
theorem rch_bar (c : Dev nD) : rch (F := F) ⊢ reached ER (barCell c) 0 := bigSep_elim (Finset.mem_univ (c, (.inl () : CK)))
/-- A transfer's cell has reached its first round. -/
theorem rch_x (c : Dev nD) (a : Fin 4) (t : Dev nD) : rch (F := F) ⊢ reached ER (dCell c a t) 0 := bigSep_elim (Finset.mem_univ (c, (.inr (a, t) : CK)))

/-- Device `c` owes `O`, whatever it has waited on. -/
def ow (c : Dev nD) (O : CellTallies nD τ sig Unit) : sProp 𝕄 := iprop(∃ W, owes (c : Thread nD τ) O W)
/-- The round a device is at on cell `t` once it is done with it: its own cell it never waits on. -/
def pos (c t : Dev nD) : ℕ := if c = t then 0 else 1

/-- The debt to a list of peers, the first one's apart. -/
theorem owe_cons (A : CellTallies nD τ sig Unit) {f : Dev nD → CellTallies nD τ sig Unit} {t : Dev nD} (ts : List (Dev nD)) {o : CellTallies nD τ sig Unit}
    (h : f t = o) : A + owe f (t :: ts) = A + owe f ts + o := by
  rw [show owe f (t :: ts) = owe f ts + f t from rfl, h, add_assoc]
/-- A peer that is owed nothing may be left out. -/
theorem owe_skip (A : CellTallies nD τ sig Unit) {f : Dev nD → CellTallies nD τ sig Unit} {t : Dev nD} (ts : List (Dev nD))
    (h : f t = 0) : A + owe f (t :: ts) = A + owe f ts := by
  rw [owe_cons A ts h, add_zero]

/-! ## The barrier -/

/-- What a device has towards peer `t` before it signals, and after: the signal hands `t` its two places. -/
def barPre (c t : Dev nD) : sProp 𝕄 := iprop(dutyTok ER (barCell t) 0 c ∗ rsAny (F := F) c t ∗ outAny (F := F) c t)
def barPost (c t : Dev nD) : sProp 𝕄 := if c = t then iprop(rsAny (F := F) c t ∗ outAny (F := F) c t) else iprop(emp)

/-- The signal to peer `t`, with the two places `t` writes on `c`. -/
theorem sig_blk (c t : Dev nD) {cond : BitVec 1} (hc : cond = 1#1 ↔ c ≠ t) {n : ℕ} (hn : n = t.val) {hlt : cond = 1#1 → n < nD}
    (A : CellTallies nD τ sig Unit) (ts : List (Dev nD)) {α : Type} (p : Prog (TpuEff nD τ sig (Elt F) Λ₀ .tc) α) (Q : α → sProp 𝕄) :
    iprop(ctx I K ∗ ow c (A + owe (barO c) (t :: ts)) ∗ barPre c t ∗ ((ow c (A + owe (barO c) ts) ∗ barPost c t) -∗ WP (F := F) c p Q))
      ⊢ WP (F := F) c (if h : cond = 1#1 then do
            semSignalWord (⟨n, hlt h⟩ : Dev nD) (SemArray.scalar (sig.barrier 0 rfl) : Sems sig S_).sem 1#32
            p
          else p) Q := by
  unfold WP ctx ow barPre barPost
  iintro ⟨⟨#HI, #HR, #HL⟩, ⟨%W, HO⟩, ⟨Htok, Hrs, Hout⟩, Hk⟩
  by_cases h : c = t
  · subst h
    rw [dif_neg (fun h => hc.mp h rfl)]
    iapply Hk
    isplitl [HO]
    · iexists W
      rw [owe_skip A ts (if_pos rfl)]
      iexact HO
    · rw [if_pos rfl]
      isplitl [Hrs] <;> iassumption
  · have hcond := hc.mpr h
    subst hn
    rw [dif_pos hcond]
    simp only [semSignalWord, Prog.lift, Prog.bind_op, Prog.bind_ret, Prog.pure_eq_ret]
    iapply (Rounds.wp_signal 𝒱₀ ER (Rd I) (c : Thread nD τ) none (dst := (t : Thread nD τ)) (κ := K (t, .inl ())) (d := c)
        (by rw [duties_bar]; exact Finset.mem_erase.mpr ⟨h, Finset.mem_univ _⟩) ((amount_bar I t c).trans (by decide)) () (A + owe (barO c) ts)
        (O₀ := A + owe (barO c) (t :: ts)) (owe_cons A ts (if_neg h))) $$ [HO Htok Hrs Hout]
    · isplitr; · iapply (inv_bar I K t); iexact HI
      isplitl [HO]; · iexact HO
      isplitl [Htok]; · iexact Htok
      isplitl [Hrs Hout]
      · rw [payload_bar]; unfold barPay
        isplitl [Hrs] <;> iassumption
      · iapply (rch_bar (F := F) t); iexact HR
    iintro HO
    iapply Hk
    isplitl [HO]; · iexists W; iexact HO
    rw [if_neg h]; iempintro

/-- The wait for the seven other devices' signals. -/
theorem bar_wait (c : Dev nD) {α : Type} (k : PUnit → Prog (TpuEff nD τ sig (Elt F) Λ₀ .tc) α) (Q : α → sProp 𝕄) (O : CellTallies nD τ sig Unit) (hO : Above 1 O) :
    iprop(ctx I K ∗ ow c O ∗ cred (tallyAt (barCell c) () 7) ∗ atPos ER (barCell c) 0 ∅ 0
        ∗ ((ow c O ∗ atPos ER (barCell c) 1 ∅ 0 ∗ bigSep (Finset.univ.erase c) fun d => barPay c d) -∗ WP (F := F) c (k ⟨⟩) Q))
      ⊢ WP (F := F) c (semWaitWord (SemArray.scalar (sig.barrier 0 rfl) : Sems sig S_).sem 7#32 >>= k) Q := by
  unfold WP ctx ow
  iintro ⟨⟨#HI, #HR, #HL⟩, ⟨%W, HO⟩, Hc, Hat, Hk⟩
  simp only [semWaitWord, Prog.lift, Prog.bind_op, Prog.bind_ret, Prog.pure_eq_ret]
  iapply (Rounds.wp_wait_rest_token 𝒱₀ ER (Rd I) (c : Thread nD τ) none (κ := K (c, .inl ()))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_bar I K c); iexact HI
    isplitl [Hc]; · iexact Hc
    isplitl [HO]; · iexact HO
    isplitr; · iapply (mayWait_above c _ O 1 (by rw [lv_bar]) hO); iexact HL
    iexact Hat
  iintro ⟨HO, Hat, -, Hpay⟩
  ihave Hp := (Entails.of_eq (rest_bar I c)) $$ Hpay
  iapply Hk
  isplitl [HO]; · iexists _; iexact HO
  isplitl [Hat]; · iexact Hat
  iexact Hp

/-! ## Slots -/

/-- The rectangle of slot `t`, and of the rows of chunk `t`. -/
abbrev slotR (t : Dev nD) : Rect S8x128x1024 := Rect.unit (s := S8x128x1024) ![t.val, 0, 0] S1x128x1024.size (inb_slot t)
abbrev rowR (t : Dev nD) : Rect S1024x1024 := Rect.unit (s := S1024x1024) ![128 * t.val, 0] S128x1024.size (inb_row t)

/-- The elements of a slot of the staging buffer. -/
theorem set_stS (t : Dev nD) : (stS t).view.set = stM.view.setOn (slotR t).set :=
  (Memref.set_view_squeeze _ _).trans (View.set_slice _ _)
/-- The elements of a slot of the receive buffer. -/
theorem set_rsS (t : Dev nD) : (rsS t).view.set = rsM.view.setOn (slotR t).set :=
  (Memref.set_view_squeeze _ _).trans (View.set_slice _ _)
/-- The elements of a chunk of the output. -/
theorem set_outS (t : Dev nD) : (outS t).view.set = outM.view.setOn (rowR t).set := View.set_slice _ _

/-- Two contents a view reads the same agree on its elements. -/
theorem agree_of_read {Val : EltTy → Type} {sp : Space} {s : Shape} {e : EltTy} (v : View sig .tc sp s e) {f g : v.ty.Contents Val}
    (h : v.read Val f = v.read Val g) : ∀ i ∈ v.set, f i = g i := by
  intro i hi
  obtain ⟨x, -, rfl⟩ := Finset.mem_map.mp hi
  have := congrFun h x
  rw [View.read_apply, View.read_apply] at this
  exact (cast_inj _).mp this

/-- A slot just stored, read through its memref. -/
theorem read_stS (t : Dev nD) (f : stM.view.ty.Contents (Elt F)) (w : Vec F S1x128x1024 .bf16) :
    (stS t).view.read (Elt F) ((stM.access (slotR t)).write (Elt F) f w Finset.univ) = shapeCast S128x1024 w shapeCasts_S1x128x1024_S128x1024 := by
  rw [Memref.read_squeeze_slice stM (slotR t) (fun _ => rfl) squeezes_S1x128x1024_S128x1024 shapeCasts_S1x128x1024_S128x1024]
  exact congrArg (shapeCast S128x1024 · shapeCasts_S1x128x1024_S128x1024) (View.read_write_univ (v := stM.access (slotR t)) f w)
/-- A slot that was just stored, read through the slot. -/
theorem read_rsS (t : Dev nD) (f : rsM.view.ty.Contents (Elt F)) (w : Vec F S1x128x1024 .bf16) :
    (rsS t).view.read (Elt F) ((rsM.access (slotR t)).write (Elt F) f w Finset.univ) = shapeCast S128x1024 w shapeCasts_S1x128x1024_S128x1024 := by
  rw [Memref.read_squeeze_slice rsM (slotR t) (fun _ => rfl) squeezes_S1x128x1024_S128x1024 shapeCasts_S1x128x1024_S128x1024]
  exact congrArg (shapeCast S128x1024 · shapeCasts_S1x128x1024_S128x1024) (View.read_write_univ (v := rsM.access (slotR t)) f w)
/-- The receive buffer's final contents, read through a slot. -/
theorem read_rsC (c t : Dev nD) : (rsS t).view.read (Elt F) (rsC I c) = shapeCast S128x1024 (slotV I c t) shapeCasts_S1x128x1024_S128x1024 := by
  rw [Memref.read_squeeze_slice rsM (slotR t) (fun _ => rfl) squeezes_S1x128x1024_S128x1024 shapeCasts_S1x128x1024_S128x1024, ← ld_rsC]
  rfl

/-! ## The scatter -/

/-- A slot's staging store and its transfer to peer `t`: what it takes, and what it leaves. -/
def rsPre (c t : Dev nD) : sProp 𝕄 := iprop(rsAny t c ∗ stAny c t ∗ dutyTok ER (dCell c 0 t) 0 c ∗ dutyTok ER (dCell t 1 c) 0 c)
def rsPost (c t : Dev nD) : sProp 𝕄 := if c = t then iprop(rsAny c c ∗ stAny c c) else cred (tallyAt (dCell c 0 t) () N)

/-- The transfer of the staged chunk for `t`, read from its slot on `c`, to slot `c` on `t`. -/
theorem rs_send (c t n : Dev nD) (hn : n = t) (hct : c ≠ t) {hsc : (rsS c : Memref sig (Dev.tc n : Thread nD τ).2.kind .vmem S128x1024 .bf16).view.ref.isScScratch = false}
    {hsrc : (stS t).view.WordExact} {hdst : (rsS c).view.WordExact}
    {hsem : DmaTarget.Typed .vmem (.dma (dsem 1 c)) (.remote (Dev.tc n : Thread nD τ) (rsS c) (.dma (dsem 0 t)) hsc)}
    {α : Type} {Q : α → sProp 𝕄} {k : PUnit → Prog (TpuEff nD τ sig (Elt F) Λ₀ .tc) α}
    (fs : Vec F S8x128x1024 .bf16) (hfs : (stS t).view.read (Elt F) fs = shapeCast S128x1024 (stgV I c t) shapeCasts_S1x128x1024_S128x1024)
    (fn : Vec F S8x128x1024 .bf16) (W : Waits sig Unit) (A : CellTallies nD τ sig Unit) (ts : List (Dev nD)) :
    iprop(invs I K ∗ rch ∗ ((stS t).view.loc (c : Thread nD τ) ↦[(stS t).view.set]{fullShare} fs) ∗ rsPts t c fn
        ∗ owes (c : Thread nD τ) (A + owe (rsO c) (t :: ts)) W ∗ dutyTok ER (dCell c 0 t) 0 c ∗ dutyTok ER (dCell t 1 c) 0 c)
      ⊢ iprop(((cred (tallyAt (dCell c 0 t) () N) ∗ owes (c : Thread nD τ) (A + owe (rsO c) ts) W) -∗ WP (F := F) c (k ⟨⟩) Q)
          -∗ WP (F := F) c (.op (.enqueueDma (stS t) (.remote (Dev.tc n : Thread nD τ) (rsS c) (.dma (dsem 0 t)) hsc) (.dma (dsem 1 c)) hsrc hdst hsem) k) Q) := by
  subst hn
  unfold rsPts
  iintro ⟨#HI, #HR, Hs, Hd, HO, Ht1, Ht2⟩
  iapply (Rounds.wp_send_pointsTo 𝒱₀ ER (Rd I) (c : Thread nD τ) none (κ₁ := K (c, .inr (0, n))) (κ₂ := K (n, .inr (1, c)))
    (r₁ := 0) (r₂ := 0) (d₁ := c) (d₂ := c) (fd := fn)
    (by rw [duties_x I c 0 n hct]; exact Finset.mem_singleton_self _) (by rw [duties_x I n 1 c (Ne.symm hct)]; exact Finset.mem_singleton_self _)
    () () N (by exact credit_rs c) (amount_x I c 0 n c) (amount_x I n 1 c c) (A + owe (rsO c) ts) (owe_cons A ts (if_neg hct)) (W := W)
    (by rw [payload_x]; exact exists_intro (Φ := fun f => ((stS n).view.loc (c : Thread nD τ) ↦[(stS n).view.set]{fullShare} f : sProp 𝕄)) fs)
    (by
      rw [payload_x]
      refine Entails.of_eq (pointsTo_congr (agree_of_read (rsS c).view ?_))
      rw [View.read_write_univ, hfs, read_rsC]
      exact congrArg (shapeCast S128x1024 · _) (if_neg hct).symm)) $$ [Hs Hd HO Ht1 Ht2]
  isplitr; · iapply (inv_x I K c 0 n); iexact HI
  isplitr; · iapply (inv_x I K n 1 c); iexact HI
  isplitl [Hs]; · iexact Hs
  isplitl [Hd]; · iexact Hd
  isplitl [HO]; · iexact HO
  isplitl [Ht1]; · iexact Ht1
  isplitr; · iapply (rch_x (F := F) c 0 n); iexact HR
  isplitl [Ht2]; · iexact Ht2
  iapply (rch_x (F := F) n 1 c); iexact HR

/-- The guarded staging store for peer `t` and its transfer. -/
theorem rs_blk (c t : Dev nD) {cond : BitVec 1} (hc : cond = 1#1 ↔ c ≠ t) {n : ℕ} (hn : n = t.val) {hlt : cond = 1#1 → n < nD}
    {o : Fin 3 → ℕ} (ho : o = ![t.val, 0, 0]) {o₃ : Fin 1 → ℕ} (ho₃ : o₃ = ![t.val])
    {o₁ : Fin 1 → ℕ} (ho₁ : o₁ = ![c.val]) {o₂ : Fin 3 → ℕ} (ho₂ : o₂ = ![c.val, 0, 0])
    {w : Vec F S1x128x1024 .bf16} (hw : w = stgV I c t)
    {hi : ∀ i, o i + S1x128x1024.size i ≤ S8x128x1024.size i} {hi₃ : ∀ i, o₃ i + S1.size i ≤ S8.size i}
    {hi₁ : cond = 1#1 → ∀ i, o₁ i + S1.size i ≤ S8.size i} {hi₂ : cond = 1#1 → ∀ i, o₂ i + S1x128x1024.size i ≤ S8x128x1024.size i}
    {hu : ∀ a, (Rect.unit (s := S8x128x1024) o S1x128x1024.size hi).stride a = 1}
    {hu₂ : ∀ h : cond = 1#1, ∀ a, (Rect.unit (s := S8x128x1024) o₂ S1x128x1024.size (hi₂ h)).stride a = 1} {hl hst hm} {he₁ : ∀ h : cond = 1#1, _} {he₂ : ∀ h : cond = 1#1, _} {he₃ : ∀ h : cond = 1#1, _}
    (A : CellTallies nD τ sig Unit) (ts : List (Dev nD)) {α : Type} (p : Prog (TpuEff nD τ sig (Elt F) Λ₀ .tc) α) (Q : α → sProp 𝕄) :
    iprop(ctx I K ∗ ow c (A + owe (rsO c) (t :: ts)) ∗ rsPre c t ∗ ((ow c (A + owe (rsO c) ts) ∗ rsPost c t) -∗ WP (F := F) c p Q))
      ⊢ WP (F := F) c (if h : cond = 1#1 then do
            let _ ← Prog.lift (.load stM (Rect.unit (s := S8x128x1024) o S1x128x1024.size hi).toLoadRect hl)
            Prog.lift (.store stM (Rect.unit (s := S8x128x1024) o S1x128x1024.size hi) w Finset.univ hst hm)
            Prog.lift (.enqueueDma ((stM.slice (Rect.unit (s := S8x128x1024) o S1x128x1024.size hi) hu).squeeze S128x1024 squeezes_S1x128x1024_S128x1024)
              (.remote (Dev.tc (⟨n, hlt h⟩ : Dev nD))
                ((rsM.slice (Rect.unit (s := S8x128x1024) o₂ S1x128x1024.size (hi₂ h)) (hu₂ h)).squeeze S128x1024 squeezes_S1x128x1024_S128x1024)
                (.dma ((cc0_scratch11.slice (Rect.unit (s := S8) o₃ S1.size hi₃)).squeeze S_ squeezes_S1_S_).sem))
              (.dma ((cc0_scratch12.slice (Rect.unit (s := S8) o₁ S1.size (hi₁ h))).squeeze S_ squeezes_S1_S_).sem) (he₁ h) (he₂ h) (he₃ h))
            p
          else p) Q := by
  subst ho ho₁ ho₂ ho₃ hw hn
  unfold WP ctx ow rsPre rsPost rsAny stAny
  iintro ⟨⟨#HI, #HR, #HL⟩, ⟨%W, HO⟩, ⟨⟨%fn, Hn⟩, ⟨%f, Hs⟩, Ht1, Ht2⟩, Hk⟩
  by_cases h : c = t
  · subst h
    rw [dif_neg (fun h => hc.mp h rfl), if_pos rfl]
    iapply Hk
    isplitl [HO]; · iexists W; rw [owe_skip A ts (if_pos rfl)]; iexact HO
    isplitl [Hn]; · iexists fn; iexact Hn
    iexists f; iexact Hs
  · have hcond := hc.mpr h
    rw [dif_pos hcond, if_neg h]
    simp only [Prog.lift, Prog.bind_op, Prog.bind_ret]
    iapply (wp_load 𝒱₀ (c : Thread nD τ) none Set.univ (m := stM) (S := (stS t).view.set) (set_stS t).ge) $$ Hs
    iintro Hs
    iapply (wp_store 𝒱₀ (c : Thread nD τ) none Set.univ (m := stM) (r := slotR t) (Mk := Finset.univ) (S := (stS t).view.set)
      ((Memref.setOn_access_subset_setOn stM (slotR t) Finset.univ).trans (set_stS t).ge)) $$ Hs
    iintro Hs
    iapply (rs_send I K c t ⟨t.val, hlt hcond⟩ (Fin.ext rfl) h _ (read_stS t f (stgV I c t)) fn W A ts) $$ [Hs Hn HO Ht1 Ht2]
    · isplitr; · iexact HI
      isplitr; · iexact HR
      isplitl [Hs]; · iexact Hs
      isplitl [Hn]; · iexact Hn
      isplitl [HO]; · iexact HO
      isplitl [Ht1] <;> iassumption
    iintro ⟨Hc, HO⟩
    iapply Hk
    isplitl [HO]; · iexists W; iexact HO
    iexact Hc

/-! ## Waits on the transfers -/

/-- A guarded wait on cell `t` of array `a`: what the cell was handed, or `R` kept where `t` is the device itself. -/
theorem wait_blk (c : Dev nD) (a : Fin 4) (t : Dev nD) {cond : BitVec 1} (hc : cond = 1#1 ↔ c ≠ t) (O : CellTallies nD τ sig Unit) (k : ℕ)
    (hk : lvOf (some (.inr (a, t))) ≤ k) (hO : Above k O) (R : sProp 𝕄) {s : cond = 1#1 → DmaSem sig} (hs : ∀ h, s h = dsem a t)
    {sp : Space} {s' : Shape} {e' : EltTy} {src : cond = 1#1 → Memref sig .tc sp s' e'}
    {dst : cond = 1#1 → Memref sig .tc .vmem S128x1024 .bf16} (hdst : ∀ h, (dst h).view.dmaCredit = N) {hx : ∀ h, (src h).view.WordExact} {hy : ∀ h, (dst h).view.WordExact}
    {α : Type} (p : Prog (TpuEff nD τ sig (Elt F) Λ₀ .tc) α) (Q : α → sProp 𝕄) :
    iprop(ctx I K ∗ ow c O ∗ (atPos ER (dCell c a t) 0 ∅ 0 ∗ (if c = t then R else cred (tallyAt (dCell c a t) () N)))
        ∗ ((ow c O ∗ (atPos ER (dCell c a t) (pos c t) ∅ 0 ∗ (if c = t then R else xPay I c a t))) -∗ WP (F := F) c p Q))
      ⊢ WP (F := F) c (if h : cond = 1#1 then do
            Prog.lift (.waitDma2 (s h) (src h) (dst h) (hx h) (hy h))
            p
          else p) Q := by
  unfold WP ctx ow pos
  by_cases h : c = t
  · subst h
    rw [dif_neg (fun h => hc.mp h rfl), if_pos rfl, if_pos rfl, if_pos rfl]
    iintro ⟨⟨#HI, #HR, #HL⟩, ⟨%W, HO⟩, ⟨Hat, Hc⟩, Hk⟩
    iapply Hk
    isplitl [HO]; · iexists W; iexact HO
    isplitl [Hat] <;> iassumption
  · have hcond := hc.mpr h
    rw [dif_pos hcond, if_neg h, if_neg h, if_neg h, hs hcond]
    iintro ⟨⟨#HI, #HR, #HL⟩, ⟨%W, HO⟩, ⟨Hat, Hc⟩, Hk⟩
    simp only [Prog.lift, Prog.bind_op, Prog.bind_ret]
    iapply (Rounds.wp_wait_rest_token 𝒱₀ ER (Rd I) (c : Thread nD τ) none (κ := K (c, .inr (a, t)))
      (wpE_waitDma2_eq 𝒱₀ (c : Thread nD τ) none Set.univ) (Set.mem_univ _) () (O := O) (W := W) (R := 0) (m := 0) (T := ∅)
      (by rw [expect_x I c a t h, hdst hcond, Nat.zero_add])) $$ [Hc HO Hat]
    · isplitr; · iapply (inv_x I K c a t); iexact HI
      isplitl [Hc]; · rw [hdst hcond]; iexact Hc
      isplitl [HO]; · iexact HO
      isplitr; · iapply (mayWait_above c _ O k (by rw [lv_x]; exact hk) hO); iexact HL
      iexact Hat
    iintro ⟨HO, Hat, -, Hpay⟩
    ihave Hp := (Entails.of_eq (rest_x I c a t h)) $$ Hpay
    iapply Hk
    isplitl [HO]; · iexists _; iexact HO
    isplitl [Hat]; · iexact Hat
    iexact Hp

/-! ## Stores under a guard -/

/-- The guarded store of zeros in the device's own slot `t`. -/
theorem zero_blk (c t : Dev nD) {cond : BitVec 1} (hc : cond = 1#1 ↔ c = t) {o : Fin 3 → ℕ} (ho : o = ![t.val, 0, 0])
    {w : Vec F S1x128x1024 .bf16} (hw : w = k0_pay98) {hi : ∀ i, o i + S1x128x1024.size i ≤ S8x128x1024.size i} {hl hst hm} (P : sProp 𝕄)
    {α : Type} (p : Prog (TpuEff nD τ sig (Elt F) Λ₀ .tc) α) (Q : α → sProp 𝕄) :
    iprop((if c = t then rsAny c c else P) ∗ ((if c = t then rsPts c t (rsC I c) else P) -∗ WP (F := F) c p Q))
      ⊢ WP (F := F) c (if h : cond = 1#1 then do
            let _ ← Prog.lift (.load rsM (Rect.unit (s := S8x128x1024) o S1x128x1024.size hi).toLoadRect hl)
            Prog.lift (.store rsM (Rect.unit (s := S8x128x1024) o S1x128x1024.size hi) w Finset.univ hst hm)
            p
          else p) Q := by
  subst ho hw
  unfold WP rsAny rsPts
  by_cases h : c = t
  · subst h
    rw [dif_pos (hc.mpr rfl), if_pos rfl, if_pos rfl]
    iintro ⟨⟨%f, Hs⟩, Hk⟩
    simp only [Prog.lift, Prog.bind_op, Prog.bind_ret]
    iapply (wp_load 𝒱₀ (c : Thread nD τ) none Set.univ (m := rsM) (S := (rsS c).view.set) (set_rsS c).ge) $$ Hs
    iintro Hs
    iapply (wp_store 𝒱₀ (c : Thread nD τ) none Set.univ (m := rsM) (r := slotR c) (Mk := Finset.univ) (S := (rsS c).view.set)
      ((Memref.setOn_access_subset_setOn rsM (slotR c) Finset.univ).trans (set_rsS c).ge)) $$ Hs
    iintro Hs
    iapply Hk
    have e : ((rsS c).view.loc (c : Thread nD τ) ↦[(rsS c).view.set]{fullShare} (rsM.access (slotR c)).write (Elt F) f k0_pay98 Finset.univ : sProp 𝕄)
        = ((rsS c).view.loc (c : Thread nD τ) ↦[(rsS c).view.set]{fullShare} rsC I c) := by
      refine pointsTo_congr (agree_of_read (rsS c).view ?_)
      rw [read_rsS, read_rsC]
      exact congrArg (shapeCast S128x1024 · _) (if_pos rfl).symm
    iapply (Entails.of_eq e); iexact Hs
  · rw [dif_neg (fun hh => h (hc.mp hh)), if_neg h, if_neg h]
    iintro ⟨HP, Hk⟩
    iapply Hk; iexact HP

/-- The device's own part: anything before its own chunk is computed, `redV` after. -/
def redSt (c : Dev nD) (n : ℕ) : sProp 𝕄 :=
  if c.val < n then (redM.view.loc (c : Thread nD τ) ↦{fullShare} redV I c) else iprop(∃ f, redM.view.loc (c : Thread nD τ) ↦{fullShare} f)

/-- The offsets of a whole load are zero. -/
theorem zz2 : (![0, 0] : Fin 2 → ℕ) = fun _ => 0 := by funext i; revert i; decide

/-- The guarded store of the device's own part of chunk `t`. -/
theorem red_blk (c t : Dev nD) {cond : BitVec 1} (hc : cond = 1#1 ↔ c = t)
    {w : Vec F S128x1024 .f32} (hw : c = t → w = redV I c) {hi : ∀ i, (![0, 0] : Fin 2 → ℕ) i + S128x1024.size i ≤ S128x1024.size i} {hl hst hm}
    {α : Type} (p : Prog (TpuEff nD τ sig (Elt F) Λ₀ .tc) α) (Q : α → sProp 𝕄) :
    iprop(redSt I c t.val ∗ (redSt I c (t.val + 1) -∗ WP (F := F) c p Q))
      ⊢ WP (F := F) c (if h : cond = 1#1 then do
            let _ ← Prog.lift (.load redM (Rect.unit (s := S128x1024) ![0, 0] S128x1024.size hi).toLoadRect hl)
            Prog.lift (.store redM (Rect.unit (s := S128x1024) ![0, 0] S128x1024.size hi) w Finset.univ hst hm)
            p
          else p) Q := by
  unfold WP redSt
  by_cases h : c = t
  · subst h
    rw [dif_pos (hc.mpr rfl), if_neg (Nat.lt_irrefl _), if_pos (Nat.lt_succ_self _), hw rfl]
    iintro ⟨⟨%f, Hs⟩, Hk⟩
    simp only [Prog.lift, Prog.bind_op, Prog.bind_ret]
    iapply (wp_load 𝒱₀ (c : Thread nD τ) none Set.univ (m := redM) (Finset.subset_univ _)) $$ Hs
    iintro Hs
    iapply (wp_store 𝒱₀ (c : Thread nD τ) none Set.univ (m := redM) (r := Rect.unit (s := S128x1024) ![0, 0] S128x1024.size hi) (Mk := Finset.univ) (Finset.subset_univ _)) $$ Hs
    iintro Hs
    iapply Hk
    iapply (Entails.of_eq (congrArg (fun g => (redM.view.loc (c : Thread nD τ) ↦{fullShare} g : sProp 𝕄))
      (Memref.write_access_unit_zero_univ (Elt F) cc0_scratch8 zz2 hi f (redV I c))))
    iexact Hs
  · have h' : c.val < t.val + 1 ↔ c.val < t.val := by have : c.val ≠ t.val := fun e => h (Fin.ext e); omega
    rw [dif_neg (fun hh => h (hc.mp hh)), if_congr h' rfl rfl]
    iintro ⟨HP, Hk⟩
    iapply Hk; iexact HP

/-! ## The gather -/

def agPre (c t : Dev nD) : sProp 𝕄 :=
  iprop(outPts c c (lf t) (outC I) ∗ (if c = t then iprop(emp) else outAny t c) ∗ dutyTok ER (dCell c 2 t) 0 c ∗ dutyTok ER (dCell t 3 c) 0 c)
def agPost (c t : Dev nD) : sProp 𝕄 := if c = t then outPts c c (lf t) (outC I) else cred (tallyAt (dCell c 2 t) () N)

/-- The transfer of the device's reduced rows, read at one eighth, to the same rows on `t`. -/
theorem ag_send (c t n : Dev nD) (hn : n = t) (hct : c ≠ t) {hsc : (outS c : Memref sig (Dev.tc n : Thread nD τ).2.kind .vmem S128x1024 .bf16).view.ref.isScScratch = false}
    {hsrc : (outS c).view.WordExact} {hdst : (outS c).view.WordExact}
    {hsem : DmaTarget.Typed .vmem (.dma (dsem 3 c)) (.remote (Dev.tc n : Thread nD τ) (outS c) (.dma (dsem 2 t)) hsc)}
    {α : Type} {Q : α → sProp 𝕄} {k : PUnit → Prog (TpuEff nD τ sig (Elt F) Λ₀ .tc) α}
    (fn : Vec F S1024x1024 .bf16) (W : Waits sig Unit) (A : CellTallies nD τ sig Unit) (ts : List (Dev nD)) :
    iprop(invs I K ∗ rch ∗ outPts c c (lf t) (outC I) ∗ outPts t c fullShare fn
        ∗ owes (c : Thread nD τ) (A + owe (agO c) (t :: ts)) W ∗ dutyTok ER (dCell c 2 t) 0 c ∗ dutyTok ER (dCell t 3 c) 0 c)
      ⊢ iprop(((cred (tallyAt (dCell c 2 t) () N) ∗ owes (c : Thread nD τ) (A + owe (agO c) ts) W) -∗ WP (F := F) c (k ⟨⟩) Q)
          -∗ WP (F := F) c (.op (.enqueueDma (outS c) (.remote (Dev.tc n : Thread nD τ) (outS c) (.dma (dsem 2 t)) hsc) (.dma (dsem 3 c)) hsrc hdst hsem) k) Q) := by
  subst hn
  unfold outPts
  iintro ⟨#HI, #HR, Hs, Hd, HO, Ht1, Ht2⟩
  iapply (Rounds.wp_send_pointsTo 𝒱₀ ER (Rd I) (c : Thread nD τ) none (κ₁ := K (c, .inr (2, n))) (κ₂ := K (n, .inr (3, c)))
    (r₁ := 0) (r₂ := 0) (d₁ := c) (d₂ := c) (fd := fn)
    (by rw [duties_x I c 2 n hct]; exact Finset.mem_singleton_self _) (by rw [duties_x I n 3 c (Ne.symm hct)]; exact Finset.mem_singleton_self _)
    () () N (by exact credit_out c) (amount_x I c 2 n c) (amount_x I n 3 c c) (A + owe (agO c) ts) (owe_cons A ts (if_neg hct)) (W := W)
    (by rw [payload_x]; exact Entails.rfl)
    (by
      rw [payload_x]
      refine Entails.of_eq (pointsTo_congr (agree_of_read (outS c).view ?_))
      rw [View.read_write_univ])) $$ [Hs Hd HO Ht1 Ht2]
  isplitr; · iapply (inv_x I K c 2 n); iexact HI
  isplitr; · iapply (inv_x I K n 3 c); iexact HI
  isplitl [Hs]; · iexact Hs
  isplitl [Hd]; · iexact Hd
  isplitl [HO]; · iexact HO
  isplitl [Ht1]; · iexact Ht1
  isplitr; · iapply (rch_x (F := F) c 2 n); iexact HR
  isplitl [Ht2]; · iexact Ht2
  iapply (rch_x (F := F) n 3 c); iexact HR

/-- The guarded transfer of the device's reduced rows to peer `t`. -/
theorem ag_blk (c t : Dev nD) {cond : BitVec 1} (hc : cond = 1#1 ↔ c ≠ t) {n : ℕ} (hn : n = t.val) {hlt : cond = 1#1 → n < nD}
    {o : Fin 2 → ℕ} (ho : o = ![128 * c.val, 0]) {o₁ : Fin 1 → ℕ} (ho₁ : o₁ = ![c.val]) {o₃ : Fin 1 → ℕ} (ho₃ : o₃ = ![t.val])
    {hi : cond = 1#1 → ∀ i, o i + S128x1024.size i ≤ S1024x1024.size i} {hi₃ : ∀ i, o₃ i + S1.size i ≤ S8.size i}
    {hi₁ : cond = 1#1 → ∀ i, o₁ i + S1.size i ≤ S8.size i}
    {hu : ∀ h : cond = 1#1, ∀ a, (Rect.unit (s := S1024x1024) o S128x1024.size (hi h)).stride a = 1} {he₁ : ∀ h : cond = 1#1, _} {he₂ : ∀ h : cond = 1#1, _} {he₃ : ∀ h : cond = 1#1, _}
    (A : CellTallies nD τ sig Unit) (ts : List (Dev nD)) {α : Type} (p : Prog (TpuEff nD τ sig (Elt F) Λ₀ .tc) α) (Q : α → sProp 𝕄) :
    iprop(ctx I K ∗ ow c (A + owe (agO c) (t :: ts)) ∗ agPre I c t ∗ ((ow c (A + owe (agO c) ts) ∗ agPost I c t) -∗ WP (F := F) c p Q))
      ⊢ WP (F := F) c (if h : cond = 1#1 then do
            Prog.lift (.enqueueDma (outM.slice (Rect.unit (s := S1024x1024) o S128x1024.size (hi h)) (hu h))
              (.remote (Dev.tc (⟨n, hlt h⟩ : Dev nD)) (outM.slice (Rect.unit (s := S1024x1024) o S128x1024.size (hi h)) (hu h))
                (.dma ((cc0_scratch13.slice (Rect.unit (s := S8) o₃ S1.size hi₃)).squeeze S_ squeezes_S1_S_).sem))
              (.dma ((cc0_scratch14.slice (Rect.unit (s := S8) o₁ S1.size (hi₁ h))).squeeze S_ squeezes_S1_S_).sem) (he₁ h) (he₂ h) (he₃ h))
            p
          else p) Q := by
  subst ho ho₁ ho₃ hn
  unfold WP ctx ow agPre agPost outAny
  by_cases h : c = t
  · subst h
    rw [dif_neg (fun h => hc.mp h rfl), if_pos rfl, if_pos rfl]
    iintro ⟨⟨#HI, #HR, #HL⟩, ⟨%W, HO⟩, ⟨Hs, Hn, Ht1, Ht2⟩, Hk⟩
    iapply Hk
    isplitl [HO]; · iexists W; rw [owe_skip A ts (if_pos rfl)]; iexact HO
    iexact Hs
  · have hcond := hc.mpr h
    rw [dif_pos hcond, if_neg h, if_neg h]
    simp only [Prog.lift, Prog.bind_op, Prog.bind_ret]
    iintro ⟨⟨#HI, #HR, #HL⟩, ⟨%W, HO⟩, ⟨Hs, ⟨%fn, Hn⟩, Ht1, Ht2⟩, Hk⟩
    iapply (ag_send I K c t ⟨t.val, hlt hcond⟩ (Fin.ext rfl) h fn W A ts) $$ [Hs Hn HO Ht1 Ht2]
    · isplitr; · iexact HI
      isplitr; · iexact HR
      isplitl [Hs]; · iexact Hs
      isplitl [Hn]; · iexact Hn
      isplitl [HO]; · iexact HO
      isplitl [Ht1] <;> iassumption
    iintro ⟨Hc, HO⟩
    iapply Hk
    isplitl [HO]; · iexists W; iexact HO
    iexact Hc

end Cert.KProof
end
-- ==== Proof.Phases.lean ====
/-
  The eight peers of one phase as one assertion, and each guarded block as one step of it.
-/
module

public import proofs.«01_k».proof.Proof.Blocks

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Ins F) (K : Dev nD × CK → ℕ)

/-- The weakest precondition, closed. -/
@[irreducible] def Go (c : Dev nD) {α : Type} (p : Prog (TpuEff nD τ sig (Elt F) Λ₀ .tc) α) (Q : α → sProp 𝕄) : sProp 𝕄 := WP c p Q

/-- A whole memref is whole. -/
abbrev isW (b : Ref sig .tc) := Memref.isWhole_whole (sig := sig) (κ := .tc) b
/-! The eight scratch buffers of the attention, and the parts of the body at this kernel's memrefs. -/
abbrev wqS : Memref sig .tc .vmem S1024x1024 .bf16 := Memref.whole cc0_scratch0
abbrev wkS : Memref sig .tc .vmem S1024x1024 .bf16 := Memref.whole cc0_scratch1
abbrev wvS : Memref sig .tc .vmem S1024x1024 .bf16 := Memref.whole cc0_scratch2
abbrev woS : Memref sig .tc .vmem S1024x1024 .bf16 := Memref.whole cc0_scratch3
abbrev qS : Memref sig .tc .vmem S256x1024 .bf16 := Memref.whole cc0_scratch4
abbrev kS : Memref sig .tc .vmem S256x1024 .bf16 := Memref.whole cc0_scratch5
abbrev vS : Memref sig .tc .vmem S256x1024 .bf16 := Memref.whole cc0_scratch6
abbrev atS : Memref sig .tc .vmem S256x1024 .bf16 := Memref.whole cc0_scratch7

abbrev P1 := k0_part1 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P2 := k0_part2 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P3 := k0_part3 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P4 := k0_part4 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P5 := k0_part5 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P6 := k0_part6 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P7 := k0_part7 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P8 := k0_part8 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P9 := k0_part9 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P10 := k0_part10 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P11 := k0_part11 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P12 := k0_part12 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P13 := k0_part13 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P14 := k0_part14 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P15 := k0_part15 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P16 := k0_part16 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P17 := k0_part17 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P18 := k0_part18 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P19 := k0_part19 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P20 := k0_part20 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P21 := k0_part21 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P22 := k0_part22 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P23 := k0_part23 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P24 := k0_part24 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P25 := k0_part25 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P26 := k0_part26 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P27 := k0_part27 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P28 := k0_part28 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P29 := k0_part29 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P30 := k0_part30 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14
abbrev P31 := k0_part31 (F := F) xM (isW _) wqM (isW _) woM (isW _) wkM (isW _) wvM (isW _) outM (isW _) wqS (isW _) wkS (isW _) wvS (isW _) woS (isW _) qS (isW _) kS (isW _)
  vS (isW _) atS (isW _) redM (isW _) stM (isW _) rsM (isW _) cc0_scratch11 cc0_scratch12 cc0_scratch13 cc0_scratch14

/-! ## Eight peers, `n` of them done -/

/-- Towards every peer: `B` where its block has run, `A` where not; the first `n` have. -/
def St (A B : Dev nD → sProp 𝕄) (n : ℕ) : sProp 𝕄 := bigSep Finset.univ fun t : Dev nD => if t.val < n then B t else A t
/-- The peers but `t`, of which those before `t` are done. -/
def StRest (A B : Dev nD → sProp 𝕄) (t : Dev nD) : sProp 𝕄 := bigSep (Finset.univ.erase t) fun t' : Dev nD => if t'.val < t.val then B t' else A t'

/-- Before step `t`, peer `t` is still to come. -/
theorem St_take (A B : Dev nD → sProp 𝕄) (t : Dev nD) : St A B t.val = iprop(A t ∗ StRest A B t) := by
  unfold St StRest
  rw [bigSep_univ_at _ t, if_neg (Nat.lt_irrefl _)]
/-- After step `t`, peer `t` is done. -/
theorem St_put (A B : Dev nD → sProp 𝕄) (t : Dev nD) : St A B (t.val + 1) = iprop(B t ∗ StRest A B t) := by
  unfold St StRest
  rw [bigSep_univ_at _ t, if_pos (Nat.lt_succ_self _)]
  congr 1
  refine bigSep_congr fun t' ht' => ?_
  have : t'.val ≠ t.val := fun e => Finset.ne_of_mem_erase ht' (Fin.ext e)
  exact if_congr (by omega) rfl rfl
/-- At the start, all peers are to come. -/
theorem St_zero (A B : Dev nD → sProp 𝕄) : St A B 0 = bigSep Finset.univ A := bigSep_congr fun t _ => if_neg (Nat.not_lt_zero _)
/-- After eight steps, all peers are done. -/
theorem St_all (A B : Dev nD → sProp 𝕄) : St A B 8 = bigSep Finset.univ B := bigSep_congr fun t _ => if_pos t.isLt

/-- One peer's step as a step of the phase. -/
theorem lift_blk (A B : Dev nD → sProp 𝕄) (t : Dev nD) {C O O' G G' : sProp 𝕄} (h : iprop(C ∗ O ∗ A t ∗ ((O' ∗ B t) -∗ G)) ⊢ G') :
    iprop(C ∗ iprop(O ∗ St A B t.val) ∗ (iprop(O' ∗ St A B (t.val + 1)) -∗ G)) ⊢ G' := by
  refine BIBase.Entails.trans ?_ h
  rw [St_take, St_put]
  iintro ⟨HC, ⟨HO, HA, HR⟩, Hk⟩
  isplitl [HC]; · iexact HC
  isplitl [HO]; · iexact HO
  isplitl [HA]; · iexact HA
  iintro ⟨HO, HB⟩
  iapply Hk
  isplitl [HO]; · iexact HO
  isplitl [HB] <;> iassumption

/-- A step in front of a rest. -/
theorem chain {C S S' R G G' : sProp 𝕄} [BI.Persistent C] (h : iprop(C ∗ S ∗ (S' -∗ G)) ⊢ G') (k : iprop(C ∗ S' ∗ R) ⊢ G) : iprop(C ∗ S ∗ R) ⊢ G' := by
  refine BIBase.Entails.trans ?_ h
  iintro ⟨#HC, HS, HR⟩
  isplitr; · iexact HC
  isplitl [HS]; · iexact HS
  iintro HS
  iapply k
  isplitr; · iexact HC
  isplitl [HS] <;> iassumption
/-- The end of a chain. -/
theorem chain_ret (c : Dev nD) {C S : sProp 𝕄} {α : Type} {a : α} {Q : α → sProp 𝕄} : iprop(C ∗ S ∗ (S -∗ Q a)) ⊢ Go (F := F) c (pure a) Q := by
  unfold Go WP
  rw [Prog.pure_eq_ret, wp_ret]
  iintro ⟨-, HS, Hk⟩
  imodintro
  iapply Hk; iexact HS

/-- Reading the device's id. -/
theorem dev_step (c : Dev nD) {P : sProp 𝕄} {α : Type} {k : Dev nD → Prog (TpuEff nD τ sig (Elt F) Λ₀ .tc) α} {Q : α → sProp 𝕄}
    (h : P ⊢ Go (F := F) c (k c) Q) : P ⊢ Go (F := F) c (Prog.lift .deviceId >>= k) Q := by
  unfold Go WP at h ⊢
  simp only [Prog.lift, Prog.bind_op, Prog.bind_ret]
  rw [wp_deviceId]
  exact h

/-- What a device still owes to the peers from `n` on. -/
abbrev left (f : Dev nD → CellTallies nD τ sig Unit) (n : ℕ) : CellTallies nD τ sig Unit := owe f (peers.drop n)
/-- The peers from `t` on are `t` and the peers after it. -/
theorem drop_peers (t : Dev nD) : peers.drop t.val = t :: peers.drop (t.val + 1) := by revert t; decide

/-! ## The guards -/

/-- The device's place, as the kernel computes it. -/
abbrev v2 (c : Dev nD) : BitVec 32 := Scalar.remsi (Scalar.divsi (Dev.word c) 1#32) 8#32
/-- The printed guard of the device's own step. -/
theorem ceq (c t : Dev nD) : Scalar.cmpi .ne (Scalar.extui (Scalar.cmpi .eq (v2 c) (BitVec.ofNat 32 t.val)) : BitVec 32) 0#32 = 1#1 ↔ c = t := by revert c t; decide
/-- The printed guard of a step with another device. -/
theorem cne (c t : Dev nD) : Scalar.cmpi .ne (Scalar.extui (Scalar.cmpi .ne (v2 c) (BitVec.ofNat 32 t.val)) : BitVec 32) 0#32 = 1#1 ↔ c ≠ t := by revert c t; decide

/-! ## Part 1: the barrier -/

def barSt (c : Dev nD) (n : ℕ) : sProp 𝕄 := iprop(ow c (owe (agO c) peers + owe (rsO c) peers + left (barO c) n) ∗ St (barPre c) (barPost c) n)

/-- One signal of the barrier. -/
theorem sig_step (c t : Dev nD) {cond : BitVec 1} (hc : cond = 1#1 ↔ c ≠ t) {n : ℕ} (hn : n = t.val) {hlt : cond = 1#1 → n < nD}
    {α : Type} {p : Prog (TpuEff nD τ sig (Elt F) Λ₀ .tc) α} {Q : α → sProp 𝕄} :
    iprop(ctx I K ∗ barSt c t.val ∗ (barSt c (t.val + 1) -∗ Go (F := F) c p Q))
      ⊢ Go (F := F) c (if h : cond = 1#1 then do
            semSignalWord (⟨n, hlt h⟩ : Dev nD) (SemArray.scalar (sig.barrier 0 rfl) : Sems sig S_).sem 1#32
            p
          else p) Q := by
  unfold Go barSt left
  rw [drop_peers t]
  exact lift_blk _ _ t (sig_blk I K c t hc hn _ _ p Q)

/-- The exchange's resources before and after the barrier: every device's two places are with the device that writes there. -/
theorem bar_join (c : Dev nD) : iprop(bigSep Finset.univ (barPost (F := F) c) ∗ bigSep (Finset.univ.erase c) fun d => barPay (F := F) c d)
    ⊢ bigSep Finset.univ fun d => barPay (F := F) c d := by
  rw [bigSep_univ_at (barPost (F := F) c) c, bigSep_univ_at (fun d => barPay (F := F) c d) c]
  unfold barPost barPay
  rw [if_pos rfl]
  iintro ⟨⟨HA, -⟩, HB⟩
  isplitl [HA] <;> iassumption

/-! ## The scatter -/

def rsSt (c : Dev nD) (n : ℕ) : sProp 𝕄 := iprop(ow c (owe (agO c) peers + left (rsO c) n) ∗ St (rsPre c) (rsPost c) n)
def S2 (c : Dev nD) (n m : ℕ) : sProp 𝕄 := iprop(rsSt c n ∗ redSt I c m)

/-- One step of the scatter: the chunk is stored in its slot and its transfer starts. -/
theorem rs_step (c t : Dev nD) (m : ℕ) {cond : BitVec 1} (hc : cond = 1#1 ↔ c ≠ t) {n : ℕ} (hn : n = t.val) {hlt : cond = 1#1 → n < nD}
    {o : Fin 3 → ℕ} (ho : o = ![t.val, 0, 0]) {o₃ : Fin 1 → ℕ} (ho₃ : o₃ = ![t.val])
    {o₁ : Fin 1 → ℕ} (ho₁ : o₁ = ![c.val]) {o₂ : Fin 3 → ℕ} (ho₂ : o₂ = ![c.val, 0, 0])
    {w : Vec F S1x128x1024 .bf16} (hw : w = stgV I c t)
    {hi : ∀ i, o i + S1x128x1024.size i ≤ S8x128x1024.size i} {hi₃ : ∀ i, o₃ i + S1.size i ≤ S8.size i}
    {hi₁ : cond = 1#1 → ∀ i, o₁ i + S1.size i ≤ S8.size i} {hi₂ : cond = 1#1 → ∀ i, o₂ i + S1x128x1024.size i ≤ S8x128x1024.size i}
    {hu : ∀ a, (Rect.unit (s := S8x128x1024) o S1x128x1024.size hi).stride a = 1}
    {hu₂ : ∀ h : cond = 1#1, ∀ a, (Rect.unit (s := S8x128x1024) o₂ S1x128x1024.size (hi₂ h)).stride a = 1} {hl hst hm}
    {he₁ : ∀ h : cond = 1#1, _} {he₂ : ∀ h : cond = 1#1, _} {he₃ : ∀ h : cond = 1#1, _}
    {α : Type} {p : Prog (TpuEff nD τ sig (Elt F) Λ₀ .tc) α} {Q : α → sProp 𝕄} :
    iprop(ctx I K ∗ S2 I c t.val m ∗ (S2 I c (t.val + 1) m -∗ Go (F := F) c p Q))
      ⊢ Go (F := F) c (if h : cond = 1#1 then do
            let _ ← Prog.lift (.load stM (Rect.unit (s := S8x128x1024) o S1x128x1024.size hi).toLoadRect hl)
            Prog.lift (.store stM (Rect.unit (s := S8x128x1024) o S1x128x1024.size hi) w Finset.univ hst hm)
            Prog.lift (.enqueueDma ((stM.slice (Rect.unit (s := S8x128x1024) o S1x128x1024.size hi) hu).squeeze S128x1024 squeezes_S1x128x1024_S128x1024)
              (.remote (Dev.tc (⟨n, hlt h⟩ : Dev nD))
                ((rsM.slice (Rect.unit (s := S8x128x1024) o₂ S1x128x1024.size (hi₂ h)) (hu₂ h)).squeeze S128x1024 squeezes_S1x128x1024_S128x1024)
                (.dma ((cc0_scratch11.slice (Rect.unit (s := S8) o₃ S1.size hi₃)).squeeze S_ squeezes_S1_S_).sem))
              (.dma ((cc0_scratch12.slice (Rect.unit (s := S8) o₁ S1.size (hi₁ h))).squeeze S_ squeezes_S1_S_).sem) (he₁ h) (he₂ h) (he₃ h))
            p
          else p) Q := by
  unfold Go S2 rsSt left
  rw [drop_peers t]
  have := lift_blk (rsPre (F := F) c) (rsPost c) t (rs_blk I K c t hc hn (hlt := hlt) ho ho₃ ho₁ ho₂ hw (hi := hi) (hi₃ := hi₃) (hi₁ := hi₁) (hi₂ := hi₂) (hu := hu) (hu₂ := hu₂)
    (hl := hl) (hst := hst) (hm := hm) (he₁ := he₁) (he₂ := he₂) (he₃ := he₃) (owe (agO c) peers) (peers.drop (t.val + 1)) p Q)
  refine BIBase.Entails.trans ?_ this
  iintro ⟨HC, ⟨HS, Hr⟩, Hk⟩
  isplitl [HC]; · iexact HC
  isplitl [HS]; · iexact HS
  iintro HS
  iapply Hk
  isplitl [HS] <;> iassumption

/-- One step that keeps the device's own chunk. -/
theorem red_step (c t : Dev nD) (n : ℕ) {cond : BitVec 1} (hc : cond = 1#1 ↔ c = t)
    {w : Vec F S128x1024 .f32} (hw : c = t → w = redV I c) {hi : ∀ i, (![0, 0] : Fin 2 → ℕ) i + S128x1024.size i ≤ S128x1024.size i} {hl hst hm}
    {α : Type} {p : Prog (TpuEff nD τ sig (Elt F) Λ₀ .tc) α} {Q : α → sProp 𝕄} :
    iprop(ctx I K ∗ S2 I c n t.val ∗ (S2 I c n (t.val + 1) -∗ Go (F := F) c p Q))
      ⊢ Go (F := F) c (if h : cond = 1#1 then do
            let _ ← Prog.lift (.load redM (Rect.unit (s := S128x1024) ![0, 0] S128x1024.size hi).toLoadRect hl)
            Prog.lift (.store redM (Rect.unit (s := S128x1024) ![0, 0] S128x1024.size hi) w Finset.univ hst hm)
            p
          else p) Q := by
  unfold Go S2
  refine BIBase.Entails.trans ?_ (red_blk I c t hc hw (hi := hi) (hl := hl) (hst := hst) (hm := hm) p Q)
  iintro ⟨-, ⟨HS, Hr⟩, Hk⟩
  isplitl [Hr]; · iexact Hr
  iintro Hr
  iapply Hk
  isplitl [HS] <;> iassumption

/-! ## The waits -/

/-- Cell `t` of array `a` before the wait on it, and after; `R t` is kept on the device's own cell. -/
def WA (R : Dev nD → sProp 𝕄) (c : Dev nD) (a : Fin 4) (t : Dev nD) : sProp 𝕄 :=
  iprop(atPos ER (dCell c a t) 0 ∅ 0 ∗ (if c = t then R t else cred (tallyAt (dCell c a t) () N)))
def WB (R : Dev nD → sProp 𝕄) (c : Dev nD) (a : Fin 4) (t : Dev nD) : sProp 𝕄 :=
  iprop(atPos ER (dCell c a t) (pos c t) ∅ 0 ∗ (if c = t then R t else xPay I c a t))
def WSt (R : Dev nD → sProp 𝕄) (c : Dev nD) (a : Fin 4) (O : CellTallies nD τ sig Unit) (n : ℕ) : sProp 𝕄 :=
  iprop(ow c O ∗ St (WA R c a) (WB I R c a) n)

/-- One wait on a transfer's cell. -/
theorem wait_step (R : Dev nD → sProp 𝕄) (c : Dev nD) (a : Fin 4) (t : Dev nD) (O : CellTallies nD τ sig Unit) (k : ℕ)
    (hO : Above k O) {cond : BitVec 1} (hc : cond = 1#1 ↔ c ≠ t) (hk : lvOf (some (.inr (a, t))) ≤ k) {s : cond = 1#1 → DmaSem sig} (hs : ∀ h, s h = dsem a t)
    {sp : Space} {s' : Shape} {e' : EltTy} {src : cond = 1#1 → Memref sig .tc sp s' e'}
    {dst : cond = 1#1 → Memref sig .tc .vmem S128x1024 .bf16} (hdst : ∀ h, (dst h).view.dmaCredit = N) {hx : ∀ h, (src h).view.WordExact} {hy : ∀ h, (dst h).view.WordExact}
    {α : Type} {p : Prog (TpuEff nD τ sig (Elt F) Λ₀ .tc) α} {Q : α → sProp 𝕄} :
    iprop(ctx I K ∗ WSt I R c a O t.val ∗ (WSt I R c a O (t.val + 1) -∗ Go (F := F) c p Q))
      ⊢ Go (F := F) c (if h : cond = 1#1 then do
            Prog.lift (.waitDma2 (s h) (src h) (dst h) (hx h) (hy h))
            p
          else p) Q := by
  unfold Go WSt
  exact lift_blk _ _ t (wait_blk I K c a t hc O k hk hO (R t) hs hdst p Q)

/-- The receive buffer's slots: `n` of them waited for, of which the own one is filled with zeros. -/
abbrev O₁ (c : Dev nD) : CellTallies nD τ sig Unit := owe (agO c) peers + left (rsO c) 8
/-- What a device owes after the scatter is above the scatter's cells. -/
theorem above_O₁ {k : ℕ} (hk : k < 3) (c : Dev nD) : Above k (O₁ c) := (Above.owe (above_ag hk c) _).add (Above.zero k)
def zA (c t : Dev nD) : sProp 𝕄 := WA (fun _ => rsAny c c) c 1 t
def zB (c t : Dev nD) : sProp 𝕄 := WB I (fun t => rsPts c t (rsC I c)) c 1 t
def zSt (c : Dev nD) (n : ℕ) : sProp 𝕄 := iprop(ow c (O₁ c) ∗ St (zA c) (zB I c) n)
def zMid (c t : Dev nD) : sProp 𝕄 := iprop(ow c (O₁ c) ∗ WA (fun t => rsPts c t (rsC I c)) c 1 t ∗ StRest (zA c) (zB I c) t)

/-- One step that clears the device's own slot. -/
theorem zero_step (c t : Dev nD) {cond : BitVec 1} (hc : cond = 1#1 ↔ c = t) {o : Fin 3 → ℕ} (ho : o = ![t.val, 0, 0])
    {w : Vec F S1x128x1024 .bf16} (hw : w = k0_pay98) {hi : ∀ i, o i + S1x128x1024.size i ≤ S8x128x1024.size i} {hl hst hm}
    {α : Type} {p : Prog (TpuEff nD τ sig (Elt F) Λ₀ .tc) α} {Q : α → sProp 𝕄} :
    iprop(ctx I K ∗ zSt I c t.val ∗ (zMid I c t -∗ Go (F := F) c p Q))
      ⊢ Go (F := F) c (if h : cond = 1#1 then do
            let _ ← Prog.lift (.load rsM (Rect.unit (s := S8x128x1024) o S1x128x1024.size hi).toLoadRect hl)
            Prog.lift (.store rsM (Rect.unit (s := S8x128x1024) o S1x128x1024.size hi) w Finset.univ hst hm)
            p
          else p) Q := by
  unfold Go zSt zMid
  rw [St_take]
  refine BIBase.Entails.trans ?_ (zero_blk I c t hc ho hw (hi := hi) (hl := hl) (hst := hst) (hm := hm) (cred (tallyAt (dCell c 1 t) () N)) p Q)
  unfold zA WA
  iintro ⟨-, ⟨HO, ⟨Hat, HA⟩, HR⟩, Hk⟩
  isplitl [HA]; · iexact HA
  iintro HA
  iapply Hk
  isplitl [HO]; · iexact HO
  isplitr [HR]
  · isplitl [Hat]; · iexact Hat
    iexact HA
  iexact HR
/-- One wait for a slot of the receive buffer. -/
theorem recv_step (c t : Dev nD) {cond : BitVec 1} (hc : cond = 1#1 ↔ c ≠ t) {s : cond = 1#1 → DmaSem sig} (hs : ∀ h, s h = dsem 1 t)
    {sp : Space} {s' : Shape} {e' : EltTy} {src : cond = 1#1 → Memref sig .tc sp s' e'}
    {dst : cond = 1#1 → Memref sig .tc .vmem S128x1024 .bf16} (hdst : ∀ h, (dst h).view.dmaCredit = N) {hx : ∀ h, (src h).view.WordExact} {hy : ∀ h, (dst h).view.WordExact}
    {α : Type} {p : Prog (TpuEff nD τ sig (Elt F) Λ₀ .tc) α} {Q : α → sProp 𝕄} :
    iprop(ctx I K ∗ zMid I c t ∗ (zSt I c (t.val + 1) -∗ Go (F := F) c p Q))
      ⊢ Go (F := F) c (if h : cond = 1#1 then do
            Prog.lift (.waitDma2 (s h) (src h) (dst h) (hx h) (hy h))
            p
          else p) Q := by
  unfold Go zSt zMid
  rw [St_put]
  refine BIBase.Entails.trans ?_ (wait_blk I K c 1 t hc (O₁ c) 2 (by exact le_refl 2) (above_O₁ (by decide) c) (rsPts c t (rsC I c)) hs hdst (hx := hx) (hy := hy) p Q)
  unfold zB WB WA
  iintro ⟨HC, ⟨HO, HA, HR⟩, Hk⟩
  isplitl [HC]; · iexact HC
  isplitl [HO]; · iexact HO
  isplitl [HA]; · iexact HA
  iintro ⟨HO, HB⟩
  iapply Hk
  isplitl [HO]; · iexact HO
  isplitl [HB]; · iexact HB
  iexact HR

/-! ## The gather -/

abbrev O₂ (c : Dev nD) (n : ℕ) : CellTallies nD τ sig Unit := left (rsO c) 8 + left (agO c) n
def agSt (c : Dev nD) (n : ℕ) : sProp 𝕄 := iprop(ow c (O₂ c n) ∗ St (agPre I c) (agPost I c) n)

/-- One transfer of the gather. -/
theorem ag_step (c t : Dev nD) {cond : BitVec 1} (hc : cond = 1#1 ↔ c ≠ t) {n : ℕ} (hn : n = t.val) {hlt : cond = 1#1 → n < nD}
    {o : Fin 2 → ℕ} (ho : o = ![128 * c.val, 0]) {o₁ : Fin 1 → ℕ} (ho₁ : o₁ = ![c.val]) {o₃ : Fin 1 → ℕ} (ho₃ : o₃ = ![t.val])
    {hi : cond = 1#1 → ∀ i, o i + S128x1024.size i ≤ S1024x1024.size i} {hi₃ : ∀ i, o₃ i + S1.size i ≤ S8.size i}
    {hi₁ : cond = 1#1 → ∀ i, o₁ i + S1.size i ≤ S8.size i}
    {hu : ∀ h : cond = 1#1, ∀ a, (Rect.unit (s := S1024x1024) o S128x1024.size (hi h)).stride a = 1}
    {he₁ : ∀ h : cond = 1#1, _} {he₂ : ∀ h : cond = 1#1, _} {he₃ : ∀ h : cond = 1#1, _}
    {α : Type} {p : Prog (TpuEff nD τ sig (Elt F) Λ₀ .tc) α} {Q : α → sProp 𝕄} :
    iprop(ctx I K ∗ agSt I c t.val ∗ (agSt I c (t.val + 1) -∗ Go (F := F) c p Q))
      ⊢ Go (F := F) c (if h : cond = 1#1 then do
            Prog.lift (.enqueueDma (outM.slice (Rect.unit (s := S1024x1024) o S128x1024.size (hi h)) (hu h))
              (.remote (Dev.tc (⟨n, hlt h⟩ : Dev nD)) (outM.slice (Rect.unit (s := S1024x1024) o S128x1024.size (hi h)) (hu h))
                (.dma ((cc0_scratch13.slice (Rect.unit (s := S8) o₃ S1.size hi₃)).squeeze S_ squeezes_S1_S_).sem))
              (.dma ((cc0_scratch14.slice (Rect.unit (s := S8) o₁ S1.size (hi₁ h))).squeeze S_ squeezes_S1_S_).sem) (he₁ h) (he₂ h) (he₃ h))
            p
          else p) Q := by
  unfold Go agSt O₂ left
  rw [drop_peers t]
  exact lift_blk _ _ t (ag_blk I K c t hc hn ho ho₁ ho₃ (he₁ := he₁) (he₂ := he₂) (he₃ := he₃) _ _ p Q)

end Cert.KProof
end
-- ==== Proof.Split.lean ====
/-
  The exchanged buffers whole and piece by piece: the staging and receive buffers in their eight slots, the output in its eight chunks of
  rows, and a chunk of rows in its eight shares.
-/
module

public import proofs.«01_k».proof.Proof.Phases
public import Idealize.ShloMosaic.Lib.Ring
public import Idealize.ShloMosaic.Lib.ShareLeaves

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]
local notation "𝕄" => MT nD τ sig Unit (Elt F) ℕ UU ℕ

/-- Two slots have no element in common. -/
theorem slotR_disjoint (t t' : Dev nD) (h : t ≠ t') : Disjoint (slotR t).set (slotR t').set :=
  lead_disjoint (s := S8x128x1024) (NB := 8) 0 1 (fun t => ![t.val, 0, 0]) S1x128x1024.size inb_slot (fun b => (Nat.one_mul _).symm) rfl t t' h
/-- The slots are the whole buffer. -/
theorem slotR_cover : Finset.univ.biUnion (fun t : Dev nD => (slotR t).set) = Finset.univ :=
  lead_cover (s := S8x128x1024) (NB := 8) 0 1 (fun t => ![t.val, 0, 0]) S1x128x1024.size inb_slot (fun b => (Nat.one_mul _).symm)
    (by intro b a ha; match a with | ⟨0, _⟩ => exact absurd rfl ha | ⟨1, _⟩ => rfl | ⟨2, _⟩ => rfl) rfl
    (by intro a ha; match a with | ⟨0, _⟩ => exact absurd rfl ha | ⟨1, _⟩ => rfl | ⟨2, _⟩ => rfl) rfl
/-- Two chunks of rows have no element in common. -/
theorem rowR_disjoint (t t' : Dev nD) (h : t ≠ t') : Disjoint (rowR t).set (rowR t').set :=
  lead_disjoint (s := S1024x1024) (NB := 8) 0 128 (fun t => ![128 * t.val, 0]) S128x1024.size inb_row (fun b => rfl) rfl t t' h
/-- The chunks of rows are the whole output. -/
theorem rowR_cover : Finset.univ.biUnion (fun t : Dev nD => (rowR t).set) = Finset.univ :=
  lead_cover (s := S1024x1024) (NB := 8) 0 128 (fun t => ![128 * t.val, 0]) S128x1024.size inb_row (fun b => rfl)
    (by intro b a ha; match a with | ⟨0, _⟩ => exact absurd rfl ha | ⟨1, _⟩ => rfl) rfl
    (by intro a ha; match a with | ⟨0, _⟩ => exact absurd rfl ha | ⟨1, _⟩ => rfl) rfl

/-- Rectangles that tile a shape tile a whole buffer of it. -/
theorem setOn_disjoint {sp : Space} {s : Shape} {e : EltTy} (v : View sig .tc sp s e) {A B : Finset s.Idx} (h : Disjoint A B) : Disjoint (v.setOn A) (v.setOn B) :=
  (Finset.disjoint_map _).mpr h
/-- Sets that cover a shape cover a buffer seen through a whole view. -/
theorem setOn_cover {sp : Space} {s : Shape} {e : EltTy} (v : View sig .tc sp s e) (K : Dev nD → Finset s.Idx) (h : Finset.univ.biUnion K = Finset.univ)
    (hv : v.setOn Finset.univ = Finset.univ) (i : v.ty.Idx) : ∃ t, i ∈ v.setOn (K t) := by
  have hi : i ∈ v.setOn Finset.univ := hv ▸ Finset.mem_univ i
  obtain ⟨x, -, rfl⟩ := Finset.mem_map.mp hi
  obtain ⟨t, -, ht⟩ := Finset.mem_biUnion.mp (h.symm ▸ Finset.mem_univ x)
  exact ⟨t, Finset.mem_map_of_mem _ ht⟩
/-- Sets that reach every element cover. -/
theorem cover_of {β : Type} [Fintype β] [DecidableEq β] (K : Dev nD → Finset β) (h : ∀ i, ∃ t, i ∈ K t) : Finset.univ.biUnion K = Finset.univ :=
  Finset.eq_univ_of_forall fun i => Finset.mem_biUnion.mpr ((h i).imp fun t ht => ⟨Finset.mem_univ t, ht⟩)

/-- Slots of the receive buffer are disjoint. -/
theorem rs_disj (t t' : Dev nD) (h : t ≠ t') : Disjoint (rsS t).view.set (rsS t').view.set := by
  rw [set_rsS, set_rsS]; exact setOn_disjoint rsM.view (slotR_disjoint t t' h)
/-- The slots are the whole receive buffer. -/
theorem rs_cov : Finset.biUnion (β := S8x128x1024.Idx) Finset.univ (fun t : Dev nD => (rsS t).view.set) = Finset.univ := by
  refine cover_of _ fun i => ?_
  obtain ⟨t, h⟩ := setOn_cover rsM.view _ slotR_cover (View.setOn_whole_univ _) i
  exact ⟨t, (set_rsS t).ge h⟩
/-- Slots of the staging buffer are disjoint. -/
theorem st_disj (t t' : Dev nD) (h : t ≠ t') : Disjoint (stS t).view.set (stS t').view.set := by
  rw [set_stS, set_stS]; exact setOn_disjoint stM.view (slotR_disjoint t t' h)
/-- The slots are the whole staging buffer. -/
theorem st_cov : Finset.biUnion (β := S8x128x1024.Idx) Finset.univ (fun t : Dev nD => (stS t).view.set) = Finset.univ := by
  refine cover_of _ fun i => ?_
  obtain ⟨t, h⟩ := setOn_cover stM.view _ slotR_cover (View.setOn_whole_univ _) i
  exact ⟨t, (set_stS t).ge h⟩
/-- Chunks of the output are disjoint. -/
theorem out_disj (t t' : Dev nD) (h : t ≠ t') : Disjoint (outS t).view.set (outS t').view.set := by
  rw [set_outS, set_outS]; exact setOn_disjoint outM.view (rowR_disjoint t t' h)
/-- The chunks are the whole output. -/
theorem out_cov : Finset.biUnion (β := S1024x1024.Idx) Finset.univ (fun t : Dev nD => (outS t).view.set) = Finset.univ := by
  refine cover_of _ fun i => ?_
  obtain ⟨t, h⟩ := setOn_cover outM.view _ rowR_cover (View.setOn_whole_univ _) i
  exact ⟨t, (set_outS t).ge h⟩

/-- The receive buffer, slot by slot. -/
theorem rs_eq (c : Dev nD) (f : Vec F S8x128x1024 .bf16) :
    (rsM.view.loc (c : Thread nD τ) ↦{fullShare} f : sProp 𝕄) = bigSep Finset.univ fun t : Dev nD => rsPts c t f :=
  pointsTo_blocks (ℓ := rsM.view.loc (c : Thread nD τ)) (fun t : Dev nD => (rsS t).view.set) rs_disj rs_cov f
/-- The output, chunk by chunk. -/
theorem out_eq (c : Dev nD) (f : Vec F S1024x1024 .bf16) :
    (outM.view.loc (c : Thread nD τ) ↦{fullShare} f : sProp 𝕄) = bigSep Finset.univ fun t : Dev nD => outPts c t fullShare f :=
  pointsTo_blocks (ℓ := outM.view.loc (c : Thread nD τ)) (fun t : Dev nD => (outS t).view.set) out_disj out_cov f
/-- A chunk of the output, share by share. -/
theorem out_leaves (c : Dev nD) (f : Vec F S1024x1024 .bf16) :
    (outPts c c fullShare f : sProp 𝕄) = bigSep Finset.univ fun t : Dev nD => outPts c c (lf t) f := by
  unfold outPts
  exact ShareLeaves.pointsTo_leaves (ℓ := (outS c).view.loc (c : Thread nD τ)) (outS c).view.set f 3 fullShare

/-- A slot of the receive buffer with known contents is one with some contents. -/
theorem rsAny_intro (c t : Dev nD) (f : Vec F S8x128x1024 .bf16) : (rsPts c t f : sProp 𝕄) ⊢ rsAny c t := by
  unfold rsAny; iintro H; iexists f; iexact H
/-- The same of a slot of the staging buffer. -/
theorem stAny_intro (c t : Dev nD) (f : Vec F S8x128x1024 .bf16) : ((stS t).view.loc (c : Thread nD τ) ↦[(stS t).view.set]{fullShare} f : sProp 𝕄) ⊢ stAny c t := by
  unfold stAny; iintro H; iexists f; iexact H
/-- The same of a chunk of the output. -/
theorem outAny_intro (c t : Dev nD) (f : Vec F S1024x1024 .bf16) : (outPts c t fullShare f : sProp 𝕄) ⊢ outAny c t := by
  unfold outAny; iintro H; iexists f; iexact H

/-- The receive buffer, slot by slot. -/
theorem rs_give (c : Dev nD) : iprop(∃ f, rsM.view.loc (c : Thread nD τ) ↦{fullShare} f) ⊢ (bigSep Finset.univ fun t : Dev nD => rsAny c t : sProp 𝕄) := by
  iintro ⟨%f, H⟩
  have := rs_eq (F := F) c f
  ihave H := (Entails.of_eq this) $$ H
  have h : (bigSep Finset.univ fun t : Dev nD => rsPts c t f) ⊢ (bigSep Finset.univ fun t : Dev nD => rsAny c t : sProp 𝕄) :=
    bigSep_mono fun t _ => rsAny_intro c t f
  iapply h; iexact H
/-- The staging buffer, slot by slot. -/
theorem st_give (c : Dev nD) : iprop(∃ f, stM.view.loc (c : Thread nD τ) ↦{fullShare} f) ⊢ (bigSep Finset.univ fun t : Dev nD => stAny c t : sProp 𝕄) := by
  iintro ⟨%f, H⟩
  have := pointsTo_blocks (Val := Elt F) (Ix := Unit) (Name := ℕ) (U := UU) (Lvl := ℕ) (q := fullShare) (ℓ := stM.view.loc (c : Thread nD τ)) (fun t : Dev nD => (stS t).view.set) st_disj st_cov f
  ihave H := (Entails.of_eq this) $$ H
  have h : (bigSep Finset.univ fun t : Dev nD => (stS t).view.loc (c : Thread nD τ) ↦[(stS t).view.set]{fullShare} f) ⊢ (bigSep Finset.univ fun t : Dev nD => stAny c t : sProp 𝕄) :=
    bigSep_mono fun t _ => stAny_intro c t f
  iapply h; iexact H
/-- The output, chunk by chunk. -/
theorem out_give (c : Dev nD) : iprop(∃ f, outM.view.loc (c : Thread nD τ) ↦{fullShare} f) ⊢ (bigSep Finset.univ fun t : Dev nD => outAny c t : sProp 𝕄) := by
  iintro ⟨%f, H⟩
  have := out_eq (F := F) c f
  ihave H := (Entails.of_eq this) $$ H
  have h : (bigSep Finset.univ fun t : Dev nD => outPts c t fullShare f) ⊢ (bigSep Finset.univ fun t : Dev nD => outAny c t : sProp 𝕄) :=
    bigSep_mono fun t _ => outAny_intro c t f
  iapply h; iexact H
/-- The staging buffer's slots join to the buffer. -/
theorem st_take (c : Dev nD) : bigSep Finset.univ (fun t : Dev nD => stAny (F := F) c t) ⊢ (iprop(∃ f, stM.view.loc (c : Thread nD τ) ↦{fullShare} f) : sProp 𝕄) := by
  unfold stAny
  exact pointsTo_blocks_join_exists (ℓ := stM.view.loc (c : Thread nD τ)) (fun t : Dev nD => (stS t).view.set) st_disj st_cov
    (fun _ => k0_pay98 (F := F) (ix3 (n0 := 1) (n1 := 128) (n2 := 1024) 0 0 0))

end Cert.KProof
end
-- ==== Proof.Exchange.lean ====
/-
  The exchange of the kernel's body, part by part: the barrier, the waits for the staged chunks, the reduction of what landed, and the
  gather of the reduced rows, with what passes from each stage to the next.
-/
module

public import proofs.«01_k».proof.Proof.Split

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]
local notation "𝕄" => MT nD τ sig Unit (Elt F) ℕ UU ℕ

variable (I : Ins F) (K : Dev nD × CK → ℕ)

/-! ## Regrouping -/

/-- A step may be taken from what another state gives. -/
theorem rearr {A G : sProp 𝕄} (B : sProp 𝕄) (h : A ⊢ B) (k : B ⊢ G) : A ⊢ G := BIBase.Entails.trans h k
/-- Take a part of the rest into the state. -/
theorem take_right {C S T R G : sProp 𝕄} (h : iprop(C ∗ iprop(S ∗ T) ∗ R) ⊢ G) : iprop(C ∗ S ∗ iprop(T ∗ R)) ⊢ G := by
  refine BIBase.Entails.trans ?_ h
  iintro ⟨HC, HS, HT, HR⟩
  isplitl [HC]; · iexact HC
  isplitr [HR]
  · isplitl [HS] <;> iassumption
  · iexact HR
/-- Leave a part of the state with the rest. -/
theorem give_right {C S T R G : sProp 𝕄} (h : iprop(C ∗ S ∗ iprop(T ∗ R)) ⊢ G) : iprop(C ∗ iprop(S ∗ T) ∗ R) ⊢ G := by
  refine BIBase.Entails.trans ?_ h
  iintro ⟨HC, ⟨HS, HT⟩, HR⟩
  isplitl [HC]; · iexact HC
  isplitl [HS]; · iexact HS
  isplitl [HT] <;> iassumption
/-- Change the state by an entailment. -/
theorem conv {C S S' R G : sProp 𝕄} (h : S ⊢ S') (k : iprop(C ∗ S' ∗ R) ⊢ G) : iprop(C ∗ S ∗ R) ⊢ G := by
  refine BIBase.Entails.trans ?_ k
  iintro ⟨HC, HS, HR⟩
  isplitl [HC]; · iexact HC
  isplitl [HS]
  · iapply h; iexact HS
  · iexact HR
/-- A part in front of a rest of the program. -/
theorem bind_step (c : Dev nD) {C S S' : sProp 𝕄} {α β : Type} {p : Prog (TpuEff nD τ sig (Elt F) Λ₀ .tc) α} {r : α}
    {k : α → Prog (TpuEff nD τ sig (Elt F) Λ₀ .tc) β} {Q : β → sProp 𝕄}
    (h : ∀ Q' : α → sProp 𝕄, iprop(C ∗ S ∗ (S' -∗ Q' r)) ⊢ Go (F := F) c p Q') :
    iprop(C ∗ S ∗ (S' -∗ Go (F := F) c (k r) Q)) ⊢ Go (F := F) c (p >>= k) Q := by
  refine BIBase.Entails.trans (h fun x => Go c (k x) Q) ?_
  unfold Go WP
  rw [Idealize.SL.Sem.wp_bind]

/-- Two conjunctions over the devices as one. -/
theorem zipm {A B X : Dev nD → sProp 𝕄} (h : ∀ t, iprop(A t ∗ B t) ⊢ X t) : iprop(bigSep Finset.univ A ∗ bigSep Finset.univ B) ⊢ bigSep Finset.univ X :=
  (Entails.of_eq (bigSep_sep' _ _ _).symm).trans (bigSep_mono fun t _ => h t)
/-- One conjunction over the devices as two. -/
theorem unzipm {A B X : Dev nD → sProp 𝕄} (h : ∀ t, X t ⊢ iprop(A t ∗ B t)) : bigSep Finset.univ X ⊢ iprop(bigSep Finset.univ A ∗ bigSep Finset.univ B) :=
  BIBase.Entails.trans (bigSep_mono fun t _ => h t) (Entails.of_eq (bigSep_sep' _ _ _))

/-! ## The guards -/

/-- The guards of the barrier's signals. -/
theorem cond_sig (c : Dev nD) : (k0_cond1 c = 1#1 ↔ c ≠ 0) ∧ (k0_cond2 c = 1#1 ↔ c ≠ 1) ∧ (k0_cond3 c = 1#1 ↔ c ≠ 2) ∧ (k0_cond4 c = 1#1 ↔ c ≠ 3)
    ∧ (k0_cond5 c = 1#1 ↔ c ≠ 4) ∧ (k0_cond6 c = 1#1 ↔ c ≠ 5) ∧ (k0_cond7 c = 1#1 ↔ c ≠ 6) ∧ (k0_cond8 c = 1#1 ↔ c ≠ 7) := by revert c; decide
/-- The guards of the scatter's transfers. -/
theorem cond_rs (c : Dev nD) : (k0_cond10 c = 1#1 ↔ c ≠ 0) ∧ (k0_cond12 c = 1#1 ↔ c ≠ 1) ∧ (k0_cond14 c = 1#1 ↔ c ≠ 2) ∧ (k0_cond16 c = 1#1 ↔ c ≠ 3)
    ∧ (k0_cond18 c = 1#1 ↔ c ≠ 4) ∧ (k0_cond20 c = 1#1 ↔ c ≠ 5) ∧ (k0_cond22 c = 1#1 ↔ c ≠ 6) ∧ (k0_cond24 c = 1#1 ↔ c ≠ 7) := by revert c; decide
/-- The guards of the gather's transfers. -/
theorem cond_ag (c : Dev nD) : (k0_cond49 c = 1#1 ↔ c ≠ 0) ∧ (k0_cond50 c = 1#1 ↔ c ≠ 1) ∧ (k0_cond51 c = 1#1 ↔ c ≠ 2) ∧ (k0_cond52 c = 1#1 ↔ c ≠ 3)
    ∧ (k0_cond53 c = 1#1 ↔ c ≠ 4) ∧ (k0_cond54 c = 1#1 ↔ c ≠ 5) ∧ (k0_cond55 c = 1#1 ↔ c ≠ 6) ∧ (k0_cond56 c = 1#1 ↔ c ≠ 7) := by revert c; decide
/-- The guards of the waits for the gather's sends. -/
theorem cond_agw (c : Dev nD) : (k0_cond65 c = 1#1 ↔ c ≠ 0) ∧ (k0_cond66 c = 1#1 ↔ c ≠ 1) ∧ (k0_cond67 c = 1#1 ↔ c ≠ 2) ∧ (k0_cond68 c = 1#1 ↔ c ≠ 3)
    ∧ (k0_cond69 c = 1#1 ↔ c ≠ 4) ∧ (k0_cond70 c = 1#1 ↔ c ≠ 5) ∧ (k0_cond71 c = 1#1 ↔ c ≠ 6) ∧ (k0_cond72 c = 1#1 ↔ c ≠ 7) := by revert c; decide

/-! ## The barrier -/

/-- What the wait on the barrier takes besides the signals' state, and what it leaves. -/
def barW (c : Dev nD) : sProp 𝕄 := iprop(cred (tallyAt (barCell c) () 7) ∗ atPos ER (barCell c) 0 ∅ 0)
def barE (c : Dev nD) : sProp 𝕄 :=
  iprop(ow c (owe (agO c) peers + owe (rsO c) peers) ∗ atPos ER (barCell c) 1 ∅ 0 ∗ bigSep Finset.univ fun d => barPay (F := F) c d)

/-- While it waits on the barrier, a device owes only cells above it. -/
theorem above_ag_rs (c : Dev nD) : Above 1 (owe (agO c) peers + owe (rsO c) peers) :=
  (Above.owe (above_ag (by decide) c) _).add (Above.owe (above_rs (by decide) c) _)

/-- The wait on the barrier: every other device has signalled, and hands over what its signal carries. -/
theorem barwait_step (c : Dev nD) {α : Type} {k : PUnit → Prog (TpuEff nD τ sig (Elt F) Λ₀ .tc) α} {Q : α → sProp 𝕄} :
    iprop(ctx I K ∗ iprop(barSt c 8 ∗ barW c) ∗ (barE c -∗ Go (F := F) c (k ⟨⟩) Q))
      ⊢ Go (F := F) c (semWaitWord (SemArray.scalar (sig.barrier 0 rfl) : Sems sig S_).sem 7#32 >>= k) Q := by
  unfold Go
  refine BIBase.Entails.trans ?_ (bar_wait I K c k Q (owe (agO c) peers + owe (rsO c) peers) (above_ag_rs c))
  unfold barSt barW barE
  rw [St_all, show owe (agO c) peers + owe (rsO c) peers + left (barO c) 8 = owe (agO c) peers + owe (rsO c) peers from add_zero _]
  iintro ⟨HC, ⟨⟨HO, HB⟩, Hcr, Hat⟩, Hk⟩
  isplitl [HC]; · iexact HC
  isplitl [HO]; · iexact HO
  isplitl [Hcr]; · iexact Hcr
  isplitl [Hat]; · iexact Hat
  iintro ⟨HO, Hat, HP⟩
  iapply Hk
  isplitl [HO]; · iexact HO
  isplitl [Hat]; · iexact Hat
  iapply (bar_join c)
  isplitl [HB] <;> iassumption

/-- Part 1: the seven signals and the wait. -/
theorem part1 (c : Dev nD) (Q : (Σ' (_ : Dev nD), BitVec 32) → sProp 𝕄) :
    iprop(ctx I K ∗ iprop(barSt c 0 ∗ barW c) ∗ (barE c -∗ Q ⟨c, v2 c⟩)) ⊢ Go (F := F) c P1 Q := by
  unfold P1; rw [k0_part1_eq_skeleton]; unfold k0_part1_skel
  refine dev_step c ?_
  obtain ⟨h1, h2, h3, h4, h5, h6, h7, h8⟩ := cond_sig c
  refine give_right ?_
  refine chain (sig_step I K c 0 h1 k0_dev1_eq) ?_
  refine chain (sig_step I K c 1 h2 k0_dev2_eq) ?_
  refine chain (sig_step I K c 2 h3 k0_dev3_eq) ?_
  refine chain (sig_step I K c 3 h4 k0_dev4_eq) ?_
  refine chain (sig_step I K c 4 h5 k0_dev5_eq) ?_
  refine chain (sig_step I K c 5 h6 k0_dev6_eq) ?_
  refine chain (sig_step I K c 6 h7 k0_dev7_eq) ?_
  refine chain (sig_step I K c 7 h8 k0_dev8_eq) ?_
  refine take_right ?_
  refine chain (barwait_step I K c) ?_
  exact chain_ret c

/-! ## The end of the scatter -/

/-- What the device keeps of its own cell while it waits for its staged chunks. -/
abbrev R0 (c : Dev nD) : Dev nD → sProp 𝕄 := fun _ => iprop(rsAny (F := F) c c ∗ stAny (F := F) c c)
/-- The cells of array `a`, before any wait. -/
def atB (c : Dev nD) (a : Fin 4) : sProp 𝕄 := bigSep Finset.univ fun t : Dev nD => atPos ER (dCell c a t) 0 ∅ 0
/-- The cells of array `a`, done with. -/
def atE (c : Dev nD) (a : Fin 4) : sProp 𝕄 := bigSep Finset.univ fun t : Dev nD => atPos ER (dCell c a t) (pos c t) ∅ 0
/-- The cells of a receive array with the credit that will be met there. -/
def crB (c : Dev nD) (a : Fin 4) : sProp 𝕄 :=
  bigSep Finset.univ fun t : Dev nD => iprop(atPos ER (dCell c a t) 0 ∅ 0 ∗ (if c = t then iprop(emp) else cred (tallyAt (dCell c a t) () N)))

/-- From the scatter to the waits for its staged chunks. -/
theorem mid1 (c : Dev nD) : iprop(S2 I c 8 8 ∗ atB c 0) ⊢ iprop(WSt I (R0 c) c 0 (O₁ c) 0 ∗ redSt I c 8) := by
  unfold S2 rsSt WSt atB
  rw [St_all, St_zero]
  have hz : iprop(bigSep Finset.univ (rsPost (F := F) c) ∗ bigSep Finset.univ fun t : Dev nD => atPos ER (dCell c 0 t) 0 ∅ 0)
      ⊢ (bigSep Finset.univ (WA (F := F) (R0 c) c 0) : sProp 𝕄) := zipm fun t => by
    unfold rsPost WA
    iintro ⟨H1, H2⟩
    isplitl [H2]; · iexact H2
    iexact H1
  iintro ⟨⟨⟨HO, HS⟩, Hr⟩, Ha⟩
  isplitr [Hr]
  · isplitl [HO]; · iexact HO
    iapply hz
    isplitl [HS] <;> iassumption
  · iexact Hr

/-- From the staged chunks to the chunks received. -/
theorem mid2 (c : Dev nD) : iprop(WSt I (R0 c) c 0 (O₁ c) 8 ∗ crB c 1)
    ⊢ iprop(zSt I c 0 ∗ atE c 0 ∗ bigSep Finset.univ fun t : Dev nD => stAny (F := F) c t) := by
  unfold WSt zSt crB atE
  rw [St_all, St_zero]
  have hz : iprop(bigSep Finset.univ (WB I (R0 c) c 0) ∗ bigSep Finset.univ fun t : Dev nD =>
        iprop(atPos ER (dCell c 1 t) 0 ∅ 0 ∗ (if c = t then iprop(emp) else cred (tallyAt (dCell c 1 t) () N))))
      ⊢ (bigSep Finset.univ fun t : Dev nD => iprop(zA (F := F) c t ∗ iprop(atPos ER (dCell c 0 t) (pos c t) ∅ 0 ∗ stAny (F := F) c t)) : sProp 𝕄) := zipm fun t => by
    unfold WB zA WA
    by_cases h : c = t
    · subst h
      rw [if_pos rfl, if_pos rfl, if_pos rfl]
      iintro ⟨⟨H0, H1, H2⟩, H3, -⟩
      isplitl [H3 H1]
      · isplitl [H3] <;> iassumption
      · isplitl [H0] <;> iassumption
    · rw [if_neg h, if_neg h, if_neg h]
      iintro ⟨⟨H0, H1⟩, H3, H4⟩
      isplitl [H3 H4]
      · isplitl [H3] <;> iassumption
      · isplitl [H0]; · iexact H0
        iapply (show xPay I c 0 t ⊢ stAny (F := F) c t from BIBase.Entails.rfl); iexact H1
  have hu : (bigSep Finset.univ fun t : Dev nD => iprop(zA (F := F) c t ∗ iprop(atPos ER (dCell c 0 t) (pos c t) ∅ 0 ∗ stAny (F := F) c t)))
      ⊢ (iprop(bigSep Finset.univ (zA (F := F) c) ∗ bigSep Finset.univ fun t : Dev nD => iprop(atPos ER (dCell c 0 t) (pos c t) ∅ 0 ∗ stAny (F := F) c t)) : sProp 𝕄) :=
    Entails.of_eq (bigSep_sep' _ _ _)
  have hu' : (bigSep Finset.univ fun t : Dev nD => iprop(atPos ER (dCell c 0 t) (pos c t) ∅ 0 ∗ stAny (F := F) c t))
      ⊢ (iprop((bigSep Finset.univ fun t : Dev nD => atPos ER (dCell c 0 t) (pos c t) ∅ 0) ∗ bigSep Finset.univ fun t : Dev nD => stAny (F := F) c t) : sProp 𝕄) :=
    Entails.of_eq (bigSep_sep' _ _ _)
  iintro ⟨⟨HO, HW⟩, Hc⟩
  ihave H := hz $$ [HW Hc]
  · isplitl [HW] <;> iassumption
  ihave H := hu $$ H
  icases H with ⟨HZ, H⟩
  ihave H := hu' $$ H
  icases H with ⟨Ha, Hs⟩
  isplitl [HO HZ]
  · isplitl [HO] <;> iassumption
  isplitl [Ha] <;> iassumption

/-- Part 26: the last two scattered chunks, and the waits for the first seven staged ones. -/
theorem part26 (c : Dev nD) (v853 : FVec F S256x1024 .f32) (v854 : FVec F S128x1024 .f32) (h22 : k0_pay94 v854 = stgV I c 6)
    (h23 : c = 7 → k0_pay96 v853 = redV I c) (h24 : k0_pay97 v853 = stgV I c 7) (Q : PUnit → sProp 𝕄) :
    iprop(ctx I K ∗ iprop(S2 I c 6 7 ∗ atB c 0) ∗ (iprop(WSt I (R0 c) c 0 (O₁ c) 7 ∗ redSt I c 8) -∗ Q ⟨⟩))
      ⊢ Go (F := F) c (P26 c (v2 c) v853 v854 6#32) Q := by
  unfold P26; rw [k0_part26_eq_skeleton]; unfold k0_part26_skel
  obtain ⟨-, -, -, -, -, -, h6, h7⟩ := cond_rs c
  refine give_right ?_
  refine chain (rs_step I K c 6 7 h6 k0_dev15_eq rfl rfl (k0_off13_eq c) (k0_off14_eq c) h22) ?_
  refine chain (red_step I K c 7 7 (ceq c 7) h23) ?_
  refine chain (rs_step I K c 7 8 h7 k0_dev16_eq rfl rfl (k0_off15_eq c) (k0_off16_eq c) h24) ?_
  refine take_right (conv (mid1 I c) (give_right ?_))
  refine chain (wait_step I K (R0 c) c 0 0 (O₁ c) 2 (above_O₁ (by decide) c) (cne c 0) (by decide) (fun _ => rfl) (fun _ => credit_st 0)) ?_
  refine chain (wait_step I K (R0 c) c 0 1 (O₁ c) 2 (above_O₁ (by decide) c) (cne c 1) (by decide) (fun _ => rfl) (fun _ => credit_st 1)) ?_
  refine chain (wait_step I K (R0 c) c 0 2 (O₁ c) 2 (above_O₁ (by decide) c) (cne c 2) (by decide) (fun _ => rfl) (fun _ => credit_st 2)) ?_
  refine chain (wait_step I K (R0 c) c 0 3 (O₁ c) 2 (above_O₁ (by decide) c) (cne c 3) (by decide) (fun _ => rfl) (fun _ => credit_st 3)) ?_
  refine chain (wait_step I K (R0 c) c 0 4 (O₁ c) 2 (above_O₁ (by decide) c) (cne c 4) (by decide) (fun _ => rfl) (fun _ => credit_st 4)) ?_
  refine chain (wait_step I K (R0 c) c 0 5 (O₁ c) 2 (above_O₁ (by decide) c) (cne c 5) (by decide) (fun _ => rfl) (fun _ => credit_st 5)) ?_
  refine chain (wait_step I K (R0 c) c 0 6 (O₁ c) 2 (above_O₁ (by decide) c) (cne c 6) (by decide) (fun _ => rfl) (fun _ => credit_st 6)) ?_
  exact take_right (chain_ret c)

/-- Part 27: the wait for the last staged chunk, and for the first four received. -/
theorem part27 (c : Dev nD) (Q : PUnit → sProp 𝕄) :
    iprop(ctx I K ∗ iprop(WSt I (R0 c) c 0 (O₁ c) 7 ∗ crB c 1) ∗ (iprop(zMid I c 4 ∗ atE c 0 ∗ bigSep Finset.univ fun t : Dev nD => stAny (F := F) c t) -∗ Q ⟨⟩))
      ⊢ Go (F := F) c (P27 (v2 c)) Q := by
  unfold P27; rw [k0_part27_eq_skeleton]; unfold k0_part27_skel
  refine give_right ?_
  refine chain (wait_step I K (R0 c) c 0 7 (O₁ c) 2 (above_O₁ (by decide) c) (cne c 7) (by decide) (fun _ => rfl) (fun _ => credit_st 7)) ?_
  refine take_right (conv (mid2 I c) (give_right ?_))
  refine chain (zero_step I K c 0 (ceq c 0) rfl rfl) ?_
  refine chain (recv_step I K c 0 (cne c 0) (fun _ => rfl) (fun _ => credit_rs 0)) ?_
  refine chain (zero_step I K c 1 (ceq c 1) rfl rfl) ?_
  refine chain (recv_step I K c 1 (cne c 1) (fun _ => rfl) (fun _ => credit_rs 1)) ?_
  refine chain (zero_step I K c 2 (ceq c 2) rfl rfl) ?_
  refine chain (recv_step I K c 2 (cne c 2) (fun _ => rfl) (fun _ => credit_rs 2)) ?_
  refine chain (zero_step I K c 3 (ceq c 3) rfl rfl) ?_
  refine chain (recv_step I K c 3 (cne c 3) (fun _ => rfl) (fun _ => credit_rs 3)) ?_
  refine chain (zero_step I K c 4 (ceq c 4) rfl rfl) ?_
  exact take_right (chain_ret c)

end Cert.KProof
end
-- ==== Proof.Gather.lean ====
/-
  The second half of the exchange: the reduction of what landed, the gather of the reduced rows, and the output the device ends with.
-/
module

public import proofs.«01_k».proof.Proof.Exchange

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]
local notation "𝕄" => MT nD τ sig Unit (Elt F) ℕ UU ℕ

variable (I : Ins F) (K : Dev nD × CK → ℕ)

/-! ## Loads and the store of the reduced rows -/

/-- A load of elements held. -/
theorem ld_step (c : Dev nD) {C : sProp 𝕄} {sp : CoreSpace} {s : Shape} {e : EltTy} {m : Memref sig (c : Thread nD τ).2.kind sp s e} {r : LoadRect s} {hl : m.view.LoadsAt r}
    {S : Finset (Idx (m.view.loc (c : Thread nD τ)))} {q : PosShare TreeShare} {f : Buf (Elt F) (m.view.loc (c : Thread nD τ))} (hS : m.view.setOn r.set ⊆ S)
    {v : r.shape.Idx → Elt F e} (hv : m.view.readAt (Elt F) r f = v)
    {α : Type} {k : (r.shape.Idx → Elt F e) → Prog (TpuEff nD τ sig (Elt F) Λ₀ .tc) α} {Q : α → sProp 𝕄} :
    iprop(C ∗ (m.view.loc (c : Thread nD τ) ↦[S]{q} f) ∗ ((m.view.loc (c : Thread nD τ) ↦[S]{q} f) -∗ Go (F := F) c (k v) Q))
      ⊢ Go (F := F) c (Prog.lift (.load m r hl) >>= k) Q := by
  subst hv
  unfold Go WP
  iintro ⟨-, H, Hk⟩
  simp only [Prog.lift, Prog.bind_op, Prog.bind_ret]
  iapply (wp_load 𝒱₀ (c : Thread nD τ) none Set.univ (m := m) (r := r) (hl := hl) (k := k) (S := S) (q := q) (f := f) hS) $$ H
  iexact Hk

/-- The reduced rows, stored in the output. -/
theorem out_step (c : Dev nD) {C : sProp 𝕄} {o : Fin 2 → ℕ} (ho : o = ![128 * c.val, 0]) {w : Vec F S128x1024 .bf16} (hw : w = outRow I c)
    {hi : ∀ i, o i + S128x1024.size i ≤ S1024x1024.size i} {hl hst hm}
    {α : Type} {p : Prog (TpuEff nD τ sig (Elt F) Λ₀ .tc) α} {Q : α → sProp 𝕄} :
    iprop(C ∗ outAny (F := F) c c ∗ (outPts c c fullShare (outC I) -∗ Go (F := F) c p Q))
      ⊢ Go (F := F) c (do
            let _ ← Prog.lift (.load outM (Rect.unit (s := S1024x1024) o S128x1024.size hi).toLoadRect hl)
            Prog.lift (.store outM (Rect.unit (s := S1024x1024) o S128x1024.size hi) w Finset.univ hst hm)
            p) Q := by
  subst ho hw
  unfold Go WP outAny outPts
  iintro ⟨-, ⟨%f, Hs⟩, Hk⟩
  simp only [Prog.lift, Prog.bind_op, Prog.bind_ret]
  iapply (wp_load 𝒱₀ (c : Thread nD τ) none Set.univ (m := outM) (S := (outS c).view.set) (set_outS c).ge) $$ Hs
  iintro Hs
  iapply (wp_store 𝒱₀ (c : Thread nD τ) none Set.univ (m := outM) (r := rowR c) (Mk := Finset.univ) (S := (outS c).view.set)
    ((Memref.setOn_access_subset_setOn outM (rowR c) Finset.univ).trans (set_outS c).ge)) $$ Hs
  iintro Hs
  iapply Hk
  have e : ((outS c).view.loc (c : Thread nD τ) ↦[(outS c).view.set]{fullShare} (outM.access (rowR c)).write (Elt F) f (outRow I c) Finset.univ : sProp 𝕄)
      = ((outS c).view.loc (c : Thread nD τ) ↦[(outS c).view.set]{fullShare} outC I) := by
    refine pointsTo_congr (agree_of_read (outS c).view ?_)
    exact (View.read_write_univ (v := outM.access (rowR c)) f (outRow I c)).trans (ld_outC I c).symm
  iapply (Entails.of_eq e); iexact Hs

/-! ## The reduction -/

/-- The chunks received, joined in the receive buffer. -/
theorem mid3 (c : Dev nD) : zSt I c 8 ⊢ iprop(ow c (O₁ c) ∗ atE c 1 ∗ (rsM.view.loc (c : Thread nD τ) ↦{fullShare} rsC I c)) := by
  unfold zSt atE
  rw [St_all, rs_eq]
  have hz : bigSep Finset.univ (zB I c) ⊢ (iprop((bigSep Finset.univ fun t : Dev nD => atPos ER (dCell c 1 t) (pos c t) ∅ 0)
      ∗ bigSep Finset.univ fun t : Dev nD => rsPts c t (rsC I c)) : sProp 𝕄) := unzipm fun t => by
    unfold zB WB
    by_cases h : c = t
    · rw [if_pos h]
    · rw [if_neg h]
      exact BIBase.Entails.rfl
  iintro ⟨HO, H⟩
  isplitl [HO]; · iexact HO
  iapply hz; iexact H

/-- Part 28: the waits for the last chunks received, and the first three loads of the reduction. -/
theorem part28 (c : Dev nD) (Q : FVec F S128x1024 .f32 → sProp 𝕄) :
    iprop(ctx I K ∗ iprop(zMid I c 4 ∗ redSt I c 8)
        ∗ (iprop((rsM.view.loc (c : Thread nD τ) ↦{fullShare} rsC I c) ∗ (redM.view.loc (c : Thread nD τ) ↦{fullShare} redV I c) ∗ ow c (O₁ c) ∗ atE c 1)
            -∗ Q (k0_pay106 (redV I c) (slotV I c 0) (slotV I c 1))))
      ⊢ Go (F := F) c (P28 (v2 c)) Q := by
  unfold P28; rw [k0_part28_eq_skeleton]; unfold k0_part28_skel
  refine give_right ?_
  refine chain (recv_step I K c 4 (cne c 4) (fun _ => rfl) (fun _ => credit_rs 4)) ?_
  refine chain (zero_step I K c 5 (ceq c 5) rfl rfl) ?_
  refine chain (recv_step I K c 5 (cne c 5) (fun _ => rfl) (fun _ => credit_rs 5)) ?_
  refine chain (zero_step I K c 6 (ceq c 6) rfl rfl) ?_
  refine chain (recv_step I K c 6 (cne c 6) (fun _ => rfl) (fun _ => credit_rs 6)) ?_
  refine chain (zero_step I K c 7 (ceq c 7) rfl rfl) ?_
  refine chain (recv_step I K c 7 (cne c 7) (fun _ => rfl) (fun _ => credit_rs 7)) ?_
  refine conv (mid3 I c) ?_
  have hr : redSt I c 8 = (redM.view.loc (c : Thread nD τ) ↦{fullShare} redV I c : sProp 𝕄) := if_pos c.isLt
  refine rearr (iprop(ctx I K ∗ (redM.view.loc (c : Thread nD τ) ↦{fullShare} redV I c) ∗ iprop((rsM.view.loc (c : Thread nD τ) ↦{fullShare} rsC I c)
      ∗ iprop(iprop(ow c (O₁ c) ∗ atE c 1) ∗ (iprop((rsM.view.loc (c : Thread nD τ) ↦{fullShare} rsC I c) ∗ (redM.view.loc (c : Thread nD τ) ↦{fullShare} redV I c) ∗ ow c (O₁ c) ∗ atE c 1)
            -∗ Q (k0_pay106 (redV I c) (slotV I c 0) (slotV I c 1))))))) ?_ ?_
  · rw [hr]
    iintro ⟨HC, ⟨HO, Ha, Hrs⟩, Hred, Hk⟩
    isplitl [HC]; · iexact HC
    isplitl [Hred]; · iexact Hred
    isplitl [Hrs]; · iexact Hrs
    isplitl [HO Ha]
    · isplitl [HO] <;> iassumption
    · iexact Hk
  refine chain (ld_step c (m := redM) (Finset.subset_univ _) (Memref.readAt_unit_zero (Elt F) cc0_scratch8 zz2 _ _)) ?_
  refine rearr (iprop(ctx I K ∗ (rsM.view.loc (c : Thread nD τ) ↦{fullShare} rsC I c) ∗ iprop((redM.view.loc (c : Thread nD τ) ↦{fullShare} redV I c)
      ∗ iprop(iprop(ow c (O₁ c) ∗ atE c 1) ∗ (iprop((rsM.view.loc (c : Thread nD τ) ↦{fullShare} rsC I c) ∗ (redM.view.loc (c : Thread nD τ) ↦{fullShare} redV I c) ∗ ow c (O₁ c) ∗ atE c 1)
            -∗ Q (k0_pay106 (redV I c) (slotV I c 0) (slotV I c 1))))))) ?_ ?_
  · iintro ⟨HC, Hred, Hrs, Hk⟩
    isplitl [HC]; · iexact HC
    isplitl [Hrs]; · iexact Hrs
    isplitl [Hred]; · iexact Hred
    iexact Hk
  refine chain (ld_step c (m := rsM) (Finset.subset_univ _) (ld_rsC I c 0)) ?_
  refine chain (ld_step c (m := rsM) (Finset.subset_univ _) (ld_rsC I c 1)) ?_
  refine take_right (take_right (conv ?_ (chain_ret c)))
  iintro ⟨⟨H1, H2⟩, H3⟩
  isplitl [H1]; · iexact H1
  isplitl [H2] <;> iassumption

/-! ## The gather -/

/-- The tokens of the gather's credits. -/
def agT (c : Dev nD) : sProp 𝕄 := bigSep Finset.univ fun t : Dev nD => iprop(dutyTok ER (dCell c 2 t) 0 c ∗ dutyTok ER (dCell t 3 c) 0 c)
/-- The rows of chunk `c` on every device: the other devices' by the barrier, the device's own. -/
def outs (c : Dev nD) : sProp 𝕄 := bigSep Finset.univ fun t : Dev nD => outAny (F := F) t c
/-- The same but the device's own. -/
def outs' (c : Dev nD) : sProp 𝕄 := bigSep Finset.univ fun t : Dev nD => if c = t then iprop(emp) else outAny (F := F) t c

/-- The device's own chunk of the output, out of all of the chunks it holds. -/
theorem outs_take (c : Dev nD) : outs (F := F) c ⊢ iprop(outAny c c ∗ outs' c) := by
  unfold outs outs'
  rw [bigSep_univ_at _ c, bigSep_univ_at (fun t : Dev nD => if c = t then iprop(emp) else outAny (F := F) t c) c, if_pos rfl,
    bigSep_congr (s := Finset.univ.erase c) (Φ := fun t : Dev nD => if c = t then iprop(emp) else outAny (F := F) t c) (Ψ := fun t => outAny t c)
      fun t ht => if_neg (Ne.symm (Finset.ne_of_mem_erase ht))]
  iintro ⟨H1, H2⟩
  isplitl [H1]; · iexact H1
  isplitr
  · iempintro
  · iexact H2

/-- From the reduction to the gather. -/
theorem mid4 (c : Dev nD) : iprop(outPts c c fullShare (outC I) ∗ outs' c ∗ agT c ∗ ow c (O₁ c)) ⊢ agSt I c 0 := by
  unfold agSt outs' agT
  rw [St_zero, out_leaves, show O₁ c = O₂ c 0 from add_comm _ _]
  have h1 : iprop((bigSep Finset.univ fun t : Dev nD => if c = t then iprop(emp) else outAny (F := F) t c)
      ∗ bigSep Finset.univ fun t : Dev nD => iprop(dutyTok ER (dCell c 2 t) 0 c ∗ dutyTok ER (dCell t 3 c) 0 c))
      ⊢ (bigSep Finset.univ fun t : Dev nD => iprop((if c = t then iprop(emp) else outAny (F := F) t c) ∗ dutyTok ER (dCell c 2 t) 0 c ∗ dutyTok ER (dCell t 3 c) 0 c) : sProp 𝕄) :=
    zipm fun t => BIBase.Entails.rfl
  have h2 : iprop((bigSep Finset.univ fun t : Dev nD => outPts c c (lf t) (outC I))
      ∗ bigSep Finset.univ fun t : Dev nD => iprop((if c = t then iprop(emp) else outAny (F := F) t c) ∗ dutyTok ER (dCell c 2 t) 0 c ∗ dutyTok ER (dCell t 3 c) 0 c))
      ⊢ (bigSep Finset.univ (agPre I c) : sProp 𝕄) := zipm fun t => BIBase.Entails.rfl
  iintro ⟨H1, H2, H3, HO⟩
  isplitl [HO]; · iexact HO
  iapply h2
  isplitl [H1]; · iexact H1
  iapply h1
  isplitl [H2] <;> iassumption

/-- Part 29: the rest of the reduction, the store of the reduced rows, and the first two transfers of them. -/
theorem part29 (c : Dev nD) (Q : PUnit → sProp 𝕄) :
    iprop(ctx I K ∗ iprop((rsM.view.loc (c : Thread nD τ) ↦{fullShare} rsC I c) ∗ outs c ∗ agT c ∗ ow c (O₁ c))
        ∗ (iprop(agSt I c 2 ∗ (rsM.view.loc (c : Thread nD τ) ↦{fullShare} rsC I c)) -∗ Q ⟨⟩))
      ⊢ Go (F := F) c (P29 c (v2 c) (k0_pay106 (redV I c) (slotV I c 0) (slotV I c 1))) Q := by
  unfold P29; rw [k0_part29_eq_skeleton]; unfold k0_part29_skel
  obtain ⟨h0, h1, -⟩ := cond_ag c
  refine give_right ?_
  refine chain (ld_step c (m := rsM) (Finset.subset_univ _) (ld_rsC I c 2)) ?_
  refine chain (ld_step c (m := rsM) (Finset.subset_univ _) (ld_rsC I c 3)) ?_
  refine chain (ld_step c (m := rsM) (Finset.subset_univ _) (ld_rsC I c 4)) ?_
  refine chain (ld_step c (m := rsM) (Finset.subset_univ _) (ld_rsC I c 5)) ?_
  refine chain (ld_step c (m := rsM) (Finset.subset_univ _) (ld_rsC I c 6)) ?_
  refine chain (ld_step c (m := rsM) (Finset.subset_univ _) (ld_rsC I c 7)) ?_
  refine rearr (iprop(ctx I K ∗ outAny (F := F) c c ∗ iprop(iprop(outs' c ∗ agT c ∗ ow c (O₁ c)) ∗ iprop((rsM.view.loc (c : Thread nD τ) ↦{fullShare} rsC I c)
      ∗ (iprop(agSt I c 2 ∗ (rsM.view.loc (c : Thread nD τ) ↦{fullShare} rsC I c)) -∗ Q ⟨⟩))))) ?_ ?_
  · iintro ⟨HC, Hrs, ⟨Ho, Ht, HO⟩, Hk⟩
    ihave Ho := (outs_take c) $$ Ho
    icases Ho with ⟨Ho, Ho'⟩
    isplitl [HC]; · iexact HC
    isplitl [Ho]; · iexact Ho
    isplitl [Ho' Ht HO]
    · isplitl [Ho']; · iexact Ho'
      isplitl [Ht] <;> iassumption
    isplitl [Hrs] <;> iassumption
  refine chain (out_step I c (k0_off17_eq c) rfl) ?_
  refine take_right (conv (mid4 I c) ?_)
  refine chain (ag_step I K c 0 h0 k0_dev17_eq (k0_off19_eq c) (k0_off18_eq c) rfl) ?_
  refine chain (ag_step I K c 1 h1 k0_dev18_eq (k0_off21_eq c) (k0_off20_eq c) rfl) ?_
  exact take_right (chain_ret c)

/-- From the transfers of the reduced rows to the waits for the others'. -/
theorem mid5 (c : Dev nD) : iprop(agSt I c 8 ∗ crB c 3) ⊢ iprop(WSt I (fun _ => iprop(emp)) c 3 (O₂ c 8) 0 ∗ bigSep Finset.univ (agPost I c)) := by
  unfold agSt WSt crB
  rw [St_all, St_zero]
  iintro ⟨⟨HO, H⟩, Hc⟩
  isplitl [HO Hc]
  · isplitl [HO]; · iexact HO
    iexact Hc
  · iexact H
/-- From the gather's landings to the waits for its sends. -/
theorem mid6 (c : Dev nD) : iprop(WSt I (fun _ => iprop(emp)) c 3 (O₂ c 8) 8 ∗ bigSep Finset.univ (agPost I c) ∗ atB c 2)
    ⊢ iprop(WSt I (fun t => outPts c c (lf t) (outC I)) c 2 (O₂ c 8) 0 ∗ bigSep Finset.univ (WB I (fun _ => iprop(emp)) c 3)) := by
  unfold WSt atB
  rw [St_all, St_zero]
  have hz : iprop(bigSep Finset.univ (agPost I c) ∗ bigSep Finset.univ fun t : Dev nD => atPos ER (dCell c 2 t) 0 ∅ 0)
      ⊢ (bigSep Finset.univ (WA (fun t => outPts c c (lf t) (outC I)) c 2) : sProp 𝕄) := zipm fun t => by
    unfold agPost WA
    iintro ⟨H1, H2⟩
    isplitl [H2]; · iexact H2
    iexact H1
  iintro ⟨⟨HO, HW⟩, Hp, Ha⟩
  isplitl [HO Hp Ha]
  · isplitl [HO]; · iexact HO
    iapply hz
    isplitl [Hp] <;> iassumption
  · iexact HW

/-- Nothing is owed any more. -/
theorem above_O₂ (c : Dev nD) {k : ℕ} : Above k (O₂ c 8) := (Above.zero k).add (Above.zero k)

/-- Part 30: the other transfers, and the waits for the first four chunks of the others. -/
theorem part30 (c : Dev nD) (Q : PUnit → sProp 𝕄) :
    iprop(ctx I K ∗ iprop(agSt I c 2 ∗ crB c 3) ∗ (iprop(WSt I (fun _ => iprop(emp)) c 3 (O₂ c 8) 4 ∗ bigSep Finset.univ (agPost I c)) -∗ Q ⟨⟩))
      ⊢ Go (F := F) c (P30 c (v2 c)) Q := by
  unfold P30; rw [k0_part30_eq_skeleton]; unfold k0_part30_skel
  obtain ⟨-, -, h2, h3, h4, h5, h6, h7⟩ := cond_ag c
  refine give_right ?_
  refine chain (ag_step I K c 2 h2 k0_dev19_eq (k0_off23_eq c) (k0_off22_eq c) rfl) ?_
  refine chain (ag_step I K c 3 h3 k0_dev20_eq (k0_off25_eq c) (k0_off24_eq c) rfl) ?_
  refine chain (ag_step I K c 4 h4 k0_dev21_eq (k0_off27_eq c) (k0_off26_eq c) rfl) ?_
  refine chain (ag_step I K c 5 h5 k0_dev22_eq (k0_off29_eq c) (k0_off28_eq c) rfl) ?_
  refine chain (ag_step I K c 6 h6 k0_dev23_eq (k0_off31_eq c) (k0_off30_eq c) rfl) ?_
  refine chain (ag_step I K c 7 h7 k0_dev24_eq (k0_off33_eq c) (k0_off32_eq c) rfl) ?_
  refine take_right (conv (mid5 I c) (give_right ?_))
  refine chain (wait_step I K (fun _ => iprop(emp)) c 3 0 (O₂ c 8) 3 (above_O₂ c) (cne c 0) (by decide) (fun _ => rfl) (fun _ => credit_out 0)) ?_
  refine chain (wait_step I K (fun _ => iprop(emp)) c 3 1 (O₂ c 8) 3 (above_O₂ c) (cne c 1) (by decide) (fun _ => rfl) (fun _ => credit_out 1)) ?_
  refine chain (wait_step I K (fun _ => iprop(emp)) c 3 2 (O₂ c 8) 3 (above_O₂ c) (cne c 2) (by decide) (fun _ => rfl) (fun _ => credit_out 2)) ?_
  refine chain (wait_step I K (fun _ => iprop(emp)) c 3 3 (O₂ c 8) 3 (above_O₂ c) (cne c 3) (by decide) (fun _ => rfl) (fun _ => credit_out 3)) ?_
  exact take_right (chain_ret c)

/-- Part 31: the waits for the last four chunks, and for the first six transfers to have been sent. -/
theorem part31 (c : Dev nD) (Q : PUnit → sProp 𝕄) :
    iprop(ctx I K ∗ iprop(iprop(WSt I (fun _ => iprop(emp)) c 3 (O₂ c 8) 4 ∗ bigSep Finset.univ (agPost I c)) ∗ atB c 2)
        ∗ (iprop(WSt I (fun t => outPts c c (lf t) (outC I)) c 2 (O₂ c 8) 6 ∗ bigSep Finset.univ (WB I (fun _ => iprop(emp)) c 3)) -∗ Q ⟨⟩))
      ⊢ Go (F := F) c (P31 c (v2 c)) Q := by
  unfold P31; rw [k0_part31_eq_skeleton]; unfold k0_part31_skel
  obtain ⟨h0, h1, h2, h3, h4, h5, -⟩ := cond_agw c
  refine give_right (give_right ?_)
  refine chain (wait_step I K (fun _ => iprop(emp)) c 3 4 (O₂ c 8) 3 (above_O₂ c) (cne c 4) (by decide) (fun _ => rfl) (fun _ => credit_out 4)) ?_
  refine chain (wait_step I K (fun _ => iprop(emp)) c 3 5 (O₂ c 8) 3 (above_O₂ c) (cne c 5) (by decide) (fun _ => rfl) (fun _ => credit_out 5)) ?_
  refine chain (wait_step I K (fun _ => iprop(emp)) c 3 6 (O₂ c 8) 3 (above_O₂ c) (cne c 6) (by decide) (fun _ => rfl) (fun _ => credit_out 6)) ?_
  refine chain (wait_step I K (fun _ => iprop(emp)) c 3 7 (O₂ c 8) 3 (above_O₂ c) (cne c 7) (by decide) (fun _ => rfl) (fun _ => credit_out 7)) ?_
  refine take_right (take_right (conv (BIBase.Entails.trans ?_ (mid6 I c)) (give_right ?_)))
  · iintro ⟨⟨H1, H2⟩, H3⟩
    isplitl [H1]; · iexact H1
    isplitl [H2] <;> iassumption
  refine chain (wait_step I K (fun t => outPts c c (lf t) (outC I)) c 2 0 (O₂ c 8) 3 (above_O₂ c) h0 (by decide) (fun _ => rfl) (fun _ => by exact credit_out c)) ?_
  refine chain (wait_step I K (fun t => outPts c c (lf t) (outC I)) c 2 1 (O₂ c 8) 3 (above_O₂ c) h1 (by decide) (fun _ => rfl) (fun _ => by exact credit_out c)) ?_
  refine chain (wait_step I K (fun t => outPts c c (lf t) (outC I)) c 2 2 (O₂ c 8) 3 (above_O₂ c) h2 (by decide) (fun _ => rfl) (fun _ => by exact credit_out c)) ?_
  refine chain (wait_step I K (fun t => outPts c c (lf t) (outC I)) c 2 3 (O₂ c 8) 3 (above_O₂ c) h3 (by decide) (fun _ => rfl) (fun _ => by exact credit_out c)) ?_
  refine chain (wait_step I K (fun t => outPts c c (lf t) (outC I)) c 2 4 (O₂ c 8) 3 (above_O₂ c) h4 (by decide) (fun _ => rfl) (fun _ => by exact credit_out c)) ?_
  refine chain (wait_step I K (fun t => outPts c c (lf t) (outC I)) c 2 5 (O₂ c 8) 3 (above_O₂ c) h5 (by decide) (fun _ => rfl) (fun _ => by exact credit_out c)) ?_
  exact take_right (chain_ret c)

/-- The end: all the output, in one piece again. -/
theorem mid7 (c : Dev nD) : iprop(WSt I (fun t => outPts c c (lf t) (outC I)) c 2 (O₂ c 8) 8 ∗ bigSep Finset.univ (WB I (fun _ => iprop(emp)) c 3))
    ⊢ iprop(ow c 0 ∗ atE c 2 ∗ atE c 3 ∗ (outM.view.loc (c : Thread nD τ) ↦{fullShare} outC I)) := by
  unfold WSt atE
  rw [St_all, out_eq, show O₂ c 8 = 0 from add_zero _]
  have h2 : bigSep Finset.univ (WB I (fun t => outPts c c (lf t) (outC I)) c 2) ⊢ (iprop((bigSep Finset.univ fun t : Dev nD => atPos ER (dCell c 2 t) (pos c t) ∅ 0)
      ∗ bigSep Finset.univ fun t : Dev nD => outPts c c (lf t) (outC I)) : sProp 𝕄) := unzipm fun t => by
    unfold WB
    by_cases h : c = t
    · rw [if_pos h]
    · rw [if_neg h]
      exact BIBase.Entails.rfl
  have h3 : bigSep Finset.univ (WB I (fun _ => iprop(emp)) c 3) ⊢ (iprop((bigSep Finset.univ fun t : Dev nD => atPos ER (dCell c 3 t) (pos c t) ∅ 0)
      ∗ bigSep Finset.univ fun t : Dev nD => if c = t then iprop(emp) else outPts c t fullShare (outC I)) : sProp 𝕄) := unzipm fun t => BIBase.Entails.rfl
  have h4 : (iprop(outPts c c fullShare (outC I) ∗ bigSep Finset.univ fun t : Dev nD => if c = t then iprop(emp) else outPts c t fullShare (outC I)) : sProp 𝕄)
      ⊢ bigSep Finset.univ fun t : Dev nD => outPts c t fullShare (outC I) := by
    rw [bigSep_univ_at (fun t : Dev nD => outPts c t fullShare (outC I)) c, bigSep_univ_at (fun t : Dev nD => if c = t then iprop(emp) else outPts c t fullShare (outC I)) c, if_pos rfl,
      bigSep_congr (s := Finset.univ.erase c) (Φ := fun t : Dev nD => if c = t then iprop(emp) else outPts c t fullShare (outC I)) (Ψ := fun t => outPts c t fullShare (outC I))
        fun t ht => if_neg (Ne.symm (Finset.ne_of_mem_erase ht))]
    iintro ⟨H1, -, H2⟩
    isplitl [H1] <;> iassumption
  iintro ⟨⟨HO, H2⟩, H3⟩
  ihave H2 := h2 $$ H2
  icases H2 with ⟨Ha2, H2⟩
  ihave H3 := h3 $$ H3
  icases H3 with ⟨Ha3, H3⟩
  isplitl [HO]; · iexact HO
  isplitl [Ha2]; · iexact Ha2
  isplitl [Ha3]; · iexact Ha3
  iapply h4
  isplitl [H2]
  · rw [out_leaves]; iexact H2
  · iexact H3

end Cert.KProof
end
-- ==== Proof.Compute.lean ====
/-
  The computing between the exchanges: the projections of a batch and its eight heads, and what the attention buffer holds afterwards.
-/
module

public import proofs.«01_k».proof.Proof.Gather
public import Idealize.ShloMosaic.Lib.VecWindow

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (I : Ins F) (K : Dev nD × CK → ℕ)

/-! ## What a buffer reads -/

/-- A load of part of a buffer just written as a whole. -/
theorem cov_eq {s : Shape} {e : EltTy} {sp : CoreSpace} (v : View sig .tc sp s e) {off : Fin s.rank → ℕ}
    (inb : ∀ a, off a + s.size a ≤ s.size a) (w : (Rect.unit off s.size inb).shape.Idx → Elt F e) (r : Rect s) :
    v.readCov [⟨Rect.unit off s.size inb, w⟩] r.toLoadRect = View.ld (S := s) w r := by
  funext x
  show v.read (Elt F) (v.writes (Elt F) v.junk [⟨Rect.unit off s.size inb, w⟩]) (r.emb x) = _
  rw [View.read_writes_full]
  rfl

/-- A load of part of the second projection just stored. -/
theorem cov_k (inb : ∀ a, (![0, 0] : Fin 2 → ℕ) a + (![256, 1024] : Fin 2 → ℕ) a ≤ S256x1024.size a) (w : Vec F S256x1024 .bf16) (r : Rect S256x1024) :
    (View.whole (κ := .tc) cc0_scratch5).readCov (Val := Elt F) [⟨Rect.unit (s := S256x1024) ![0, 0] ![256, 1024] inb, w⟩] r.toLoadRect = View.ld w r :=
  cov_eq _ _ _ _
/-- A load of part of the third projection just stored. -/
theorem cov_v (inb : ∀ a, (![0, 0] : Fin 2 → ℕ) a + (![256, 1024] : Fin 2 → ℕ) a ≤ S256x1024.size a) {w w' : Vec F S256x1024 .bf16} (hw : w = w') (r : Rect S256x1024) :
    (View.whole (κ := .tc) cc0_scratch6).readCov (Val := Elt F) [⟨Rect.unit (s := S256x1024) ![0, 0] ![256, 1024] inb, w⟩] r.toLoadRect = View.ld w' r :=
  hw ▸ cov_eq _ _ _ _
/-- A buffer of one batch just stored as a whole. -/
theorem full_read {sp : CoreSpace} (V : View sig .tc sp S256x1024 .bf16) (f : V.ty.Contents (Elt F)) (inb : ∀ a, (![0, 0] : Fin 2 → ℕ) a + S256x1024.size a ≤ S256x1024.size a)
    (w : Vec F S256x1024 .bf16) : V.read (Elt F) (V.writes (Elt F) f [⟨Rect.unit (s := S256x1024) ![0, 0] S256x1024.size inb, w⟩]) = w :=
  View.read_writes_full V f inb w []
/-- The third projection just stored. -/
theorem writes_v (f : Vec F S256x1024 .bf16) (inb : ∀ a, (![0, 0] : Fin 2 → ℕ) a + S256x1024.size a ≤ S256x1024.size a) (w : Vec F S256x1024 .bf16) :
    vS.view.writes (Elt F) f [⟨Rect.unit (s := S256x1024) ![0, 0] S256x1024.size inb, w⟩] = w :=
  Memref.write_access_unit_zero_univ (Elt F) cc0_scratch6 zz2 inb f w
/-- A load of a whole weight. -/
theorem ld_wv (inb : ∀ a, (![0, 0] : Fin 2 → ℕ) a + (![1024, 1024] : Fin 2 → ℕ) a ≤ S1024x1024.size a) (w : Vec F S1024x1024 .bf16) :
    View.readAt (Elt F) (View.whole (κ := .tc) cc0_scratch2) (Rect.unit (s := S1024x1024) ![0, 0] ![1024, 1024] inb).toLoadRect w = w :=
  View.readAt_full _ _ _

/-- A load of the whole last weight. -/
theorem ld_wo (inb : ∀ a, (![0, 0] : Fin 2 → ℕ) a + (![1024, 1024] : Fin 2 → ℕ) a ≤ S1024x1024.size a) (w : Vec F S1024x1024 .bf16) :
    View.readAt (Elt F) (View.whole (κ := .tc) cc0_scratch3) (Rect.unit (s := S1024x1024) ![0, 0] ![1024, 1024] inb).toLoadRect w = w :=
  View.readAt_full _ _ _

/-- One head from its loads. -/
theorem head {q k v : Vec F S256x1024 .bf16} (h : Fin 8) {a b d : Vec F S256x128 .bf16} (ha : a = colB q h) (hb : b = colB k h) (hd : d = colB v h) :
    k0_pay10 a b d = k0_pay10 (colB q h) (colB k h) (colB v h) := by rw [ha, hb, hd]

/-- A head's columns of the attention. -/
theorem attn_piece (q k v : Vec F S256x1024 .bf16) (h : Fin 8) (w : Vec F S256x128 .bf16) (hw : w = k0_pay10 (colB q h) (colB k h) (colB v h))
    (x : (Rect.unit (s := S256x1024) ![0, 128 * h.val] S256x128.size (inb_col h)).shape.Idx) :
    w x = attnV q k v ((Rect.unit (s := S256x1024) ![0, 128 * h.val] S256x128.size (inb_col h)).emb x) := by
  subst hw
  have hx : (x 1).val < 128 := (x 1).isLt
  have e1 : (((Rect.unit (s := S256x1024) ![0, 128 * h.val] S256x128.size (inb_col h)).emb x) 1).val = 128 * h.val + 1 * (x 1).val := rfl
  have e0 : (((Rect.unit (s := S256x1024) ![0, 128 * h.val] S256x128.size (inb_col h)).emb x) 0).val = 0 + 1 * (x 0).val := rfl
  have hh : ∀ p, (⟨(((Rect.unit (s := S256x1024) ![0, 128 * h.val] S256x128.size (inb_col h)).emb x) 1).val / 128, p⟩ : Fin 8) = h := fun p => Fin.ext (by
    show _ / 128 = h.val
    rw [e1]; omega)
  unfold attnV
  rw [hh]
  congr 1
  funext a
  match a with
  | ⟨0, _⟩ => exact Fin.ext (by have := e0; show (x 0).val = (((Rect.unit (s := S256x1024) ![0, 128 * h.val] S256x128.size (inb_col h)).emb x) 0).val; omega)
  | ⟨1, _⟩ => exact Fin.ext (by show (x 1).val = (((Rect.unit (s := S256x1024) ![0, 128 * h.val] S256x128.size (inb_col h)).emb x) 1).val % 128; omega)

/-- The eight heads stored one after the other are the attention. -/
theorem attn_read {sp : CoreSpace} (V : View sig .tc sp S256x1024 .bf16) (f : V.ty.Contents (Elt F)) (q k v : Vec F S256x1024 .bf16)
    {w0 w1 w2 w3 w4 w5 w6 w7 : Vec F S256x128 .bf16}
    (h0 : w0 = k0_pay10 (colB q 0) (colB k 0) (colB v 0))
    (h1 : w1 = k0_pay10 (colB q 1) (colB k 1) (colB v 1))
    (h2 : w2 = k0_pay10 (colB q 2) (colB k 2) (colB v 2))
    (h3 : w3 = k0_pay10 (colB q 3) (colB k 3) (colB v 3))
    (h4 : w4 = k0_pay10 (colB q 4) (colB k 4) (colB v 4))
    (h5 : w5 = k0_pay10 (colB q 5) (colB k 5) (colB v 5))
    (h6 : w6 = k0_pay10 (colB q 6) (colB k 6) (colB v 6))
    (h7 : w7 = k0_pay10 (colB q 7) (colB k 7) (colB v 7)) :
    V.read (Elt F) (V.writes (Elt F) f [⟨Rect.unit (s := S256x1024) ![0, 896] S256x128.size (inb_col 7), w7⟩, ⟨Rect.unit (s := S256x1024) ![0, 768] S256x128.size (inb_col 6), w6⟩, ⟨Rect.unit (s := S256x1024) ![0, 640] S256x128.size (inb_col 5), w5⟩, ⟨Rect.unit (s := S256x1024) ![0, 512] S256x128.size (inb_col 4), w4⟩, ⟨Rect.unit (s := S256x1024) ![0, 384] S256x128.size (inb_col 3), w3⟩, ⟨Rect.unit (s := S256x1024) ![0, 256] S256x128.size (inb_col 2), w2⟩, ⟨Rect.unit (s := S256x1024) ![0, 128] S256x128.size (inb_col 1), w1⟩, ⟨Rect.unit (s := S256x1024) ![0, 0] S256x128.size (inb_col 0), w0⟩]) = attnV q k v := by
  funext y
  refine View.read_writes_apply_of_pieces V f (attnV q k v) _ ?_ y ?_
  · intro p hp
    simp only [List.mem_cons, List.not_mem_nil, or_false] at hp
    rcases hp with rfl | rfl | rfl | rfl | rfl | rfl | rfl | rfl
    · exact attn_piece q k v 7 _ h7
    · exact attn_piece q k v 6 _ h6
    · exact attn_piece q k v 5 _ h5
    · exact attn_piece q k v 4 _ h4
    · exact attn_piece q k v 3 _ h3
    · exact attn_piece q k v 2 _ h2
    · exact attn_piece q k v 1 _ h1
    · exact attn_piece q k v 0 _ h0
  · have hy : (y 1).val < 1024 := (y 1).isLt
    have hm : ∀ (h : Fin 8), (y 1).val / 128 = h.val → y ∈ (Rect.unit (s := S256x1024) ![0, 128 * h.val] S256x128.size (inb_col h)).set := by
      intro h hh
      refine (Rect.unit (s := S256x1024) ![0, 128 * h.val] S256x128.size (inb_col h)).mem_set.mpr fun a => ?_
      match a with
      | ⟨0, _⟩ => exact ⟨(y 0).val, (y 0).isLt, by show (y 0).val = 0 + 1 * (y 0).val; omega⟩
      | ⟨1, _⟩ => exact ⟨(y 1).val % 128, Nat.mod_lt _ (by decide), by show (y 1).val = 128 * h.val + 1 * ((y 1).val % 128); omega⟩
    have h8 : (y 1).val / 128 < 8 := by omega
    have h8' : (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 := by omega
    rcases h8' with hc | hc | hc | hc | hc | hc | hc | hc
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), hm 0 hc⟩
    · exact ⟨_, List.mem_cons_of_mem _ (List.mem_cons_of_mem _ (List.mem_cons_of_mem _ (List.mem_cons_of_mem _ (List.mem_cons_of_mem _ (List.mem_cons_of_mem _ (List.mem_cons_self)))))), hm 1 hc⟩
    · exact ⟨_, List.mem_cons_of_mem _ (List.mem_cons_of_mem _ (List.mem_cons_of_mem _ (List.mem_cons_of_mem _ (List.mem_cons_of_mem _ (List.mem_cons_self))))), hm 2 hc⟩
    · exact ⟨_, List.mem_cons_of_mem _ (List.mem_cons_of_mem _ (List.mem_cons_of_mem _ (List.mem_cons_of_mem _ (List.mem_cons_self)))), hm 3 hc⟩
    · exact ⟨_, List.mem_cons_of_mem _ (List.mem_cons_of_mem _ (List.mem_cons_of_mem _ (List.mem_cons_self))), hm 4 hc⟩
    · exact ⟨_, List.mem_cons_of_mem _ (List.mem_cons_of_mem _ (List.mem_cons_self)), hm 5 hc⟩
    · exact ⟨_, List.mem_cons_of_mem _ (List.mem_cons_self), hm 6 hc⟩
    · exact ⟨_, List.mem_cons_self, hm 7 hc⟩

/-- The eight heads stored one after the other in the attention buffer. -/
theorem attn_writes (f q k v : Vec F S256x1024 .bf16) {w0 w1 w2 w3 w4 w5 w6 w7 : Vec F S256x128 .bf16}
    (h0 : w0 = k0_pay10 (colB q 0) (colB k 0) (colB v 0))
    (h1 : w1 = k0_pay10 (colB q 1) (colB k 1) (colB v 1))
    (h2 : w2 = k0_pay10 (colB q 2) (colB k 2) (colB v 2))
    (h3 : w3 = k0_pay10 (colB q 3) (colB k 3) (colB v 3))
    (h4 : w4 = k0_pay10 (colB q 4) (colB k 4) (colB v 4))
    (h5 : w5 = k0_pay10 (colB q 5) (colB k 5) (colB v 5))
    (h6 : w6 = k0_pay10 (colB q 6) (colB k 6) (colB v 6))
    (h7 : w7 = k0_pay10 (colB q 7) (colB k 7) (colB v 7)) :
    atS.view.writes (Elt F) f [⟨Rect.unit (s := S256x1024) ![0, 896] S256x128.size (inb_col 7), w7⟩, ⟨Rect.unit (s := S256x1024) ![0, 768] S256x128.size (inb_col 6), w6⟩, ⟨Rect.unit (s := S256x1024) ![0, 640] S256x128.size (inb_col 5), w5⟩, ⟨Rect.unit (s := S256x1024) ![0, 512] S256x128.size (inb_col 4), w4⟩, ⟨Rect.unit (s := S256x1024) ![0, 384] S256x128.size (inb_col 3), w3⟩, ⟨Rect.unit (s := S256x1024) ![0, 256] S256x128.size (inb_col 2), w2⟩, ⟨Rect.unit (s := S256x1024) ![0, 128] S256x128.size (inb_col 1), w1⟩, ⟨Rect.unit (s := S256x1024) ![0, 0] S256x128.size (inb_col 0), w0⟩] = attnV q k v :=
  attn_read atS.view f q k v h0 h1 h2 h3 h4 h5 h6 h7

/-- Loading the whole attention after the eight heads. -/
theorem attn_cov (q k v : Vec F S256x1024 .bf16) {w0 w1 w2 w3 w4 w5 w6 w7 : Vec F S256x128 .bf16}
    (h0 : w0 = k0_pay10 (colB q 0) (colB k 0) (colB v 0))
    (h1 : w1 = k0_pay10 (colB q 1) (colB k 1) (colB v 1))
    (h2 : w2 = k0_pay10 (colB q 2) (colB k 2) (colB v 2))
    (h3 : w3 = k0_pay10 (colB q 3) (colB k 3) (colB v 3))
    (h4 : w4 = k0_pay10 (colB q 4) (colB k 4) (colB v 4))
    (h5 : w5 = k0_pay10 (colB q 5) (colB k 5) (colB v 5))
    (h6 : w6 = k0_pay10 (colB q 6) (colB k 6) (colB v 6))
    (h7 : w7 = k0_pay10 (colB q 7) (colB k 7) (colB v 7)) :
    atS.view.readCov [⟨Rect.unit (s := S256x1024) ![0, 896] S256x128.size (inb_col 7), w7⟩, ⟨Rect.unit (s := S256x1024) ![0, 768] S256x128.size (inb_col 6), w6⟩, ⟨Rect.unit (s := S256x1024) ![0, 640] S256x128.size (inb_col 5), w5⟩, ⟨Rect.unit (s := S256x1024) ![0, 512] S256x128.size (inb_col 4), w4⟩, ⟨Rect.unit (s := S256x1024) ![0, 384] S256x128.size (inb_col 3), w3⟩, ⟨Rect.unit (s := S256x1024) ![0, 256] S256x128.size (inb_col 2), w2⟩, ⟨Rect.unit (s := S256x1024) ![0, 128] S256x128.size (inb_col 1), w1⟩, ⟨Rect.unit (s := S256x1024) ![0, 0] S256x128.size (inb_col 0), w0⟩] (Rect.unit (s := S256x1024) ![0, 0] S256x1024.size inb_S256x1024_S256x1024_0_0).toLoadRect = attnV q k v :=
  (View.readAt_full _ _ _).trans (attn_read atS.view _ q k v h0 h1 h2 h3 h4 h5 h6 h7)

/-! ## The buffers while computing -/

/-- The arguments a device computes with: `x`, and the weights as it keeps them. -/
def Wt (c : Dev nD) : sProp 𝕄 :=
  iprop((xM.view.loc (c : Thread nD τ) ↦{fullShare} I.X c) ∗ (wqS.view.loc (c : Thread nD τ) ↦{fullShare} k0_pay1 (I.Wq c))
    ∗ (wkS.view.loc (c : Thread nD τ) ↦{fullShare} k0_pay2 (I.Wk c)) ∗ (wvS.view.loc (c : Thread nD τ) ↦{fullShare} k0_pay3 (I.Wv c))
    ∗ (woS.view.loc (c : Thread nD τ) ↦{fullShare} k0_pay4 (I.Wo c)))
/-- A scratch buffer of one batch, whatever it holds. -/
def anyB (c : Dev nD) (M : Memref sig .tc .vmem S256x1024 .bf16) : sProp 𝕄 := iprop(∃ f, M.view.loc (c : Thread nD τ) ↦{fullShare} f)
/-- Before the heads of batch `b`: the first projection is there. -/
def CB (c : Dev nD) (b : Fin 4) : sProp 𝕄 :=
  iprop(Wt I c ∗ (qS.view.loc (c : Thread nD τ) ↦{fullShare} k0_pay6 (xB (I.X c) b) (k0_pay1 (I.Wq c))) ∗ anyB c kS ∗ anyB c vS ∗ anyB c atS)
/-- Before the heads of batch `b`, when the second projection is there too. -/
def CB' (c : Dev nD) (b : Fin 4) : sProp 𝕄 :=
  iprop(Wt I c ∗ (qS.view.loc (c : Thread nD τ) ↦{fullShare} k0_pay6 (xB (I.X c) b) (k0_pay1 (I.Wq c)))
    ∗ (kS.view.loc (c : Thread nD τ) ↦{fullShare} k0_pay6 (xB (I.X c) b) (k0_pay2 (I.Wk c))) ∗ anyB c vS ∗ anyB c atS)
/-- After the heads of batch `b`. -/
def CE (c : Dev nD) (b : Fin 4) : sProp 𝕄 :=
  iprop(Wt I c ∗ anyB c qS ∗ anyB c kS ∗ anyB c vS ∗ (atS.view.loc (c : Thread nD τ) ↦{fullShare} attnB I c b))

/-! ## The batches -/

set_option maxHeartbeats 400000 in
/-- Batch 0, from its first projection on. -/
theorem seg0 (c : Dev nD) {C : sProp 𝕄} {α : Type} (p : Prog (TpuEff nD τ sig (Elt F) Λ₀ .tc) α) (Q : α → sProp 𝕄) :
    iprop(C ∗ CB I c 0 ∗ (CE I c 0 -∗ Go c p Q)) ⊢ Go (F := F) c (do
       let ⟨v89, v90⟩ : Σ' (v89 : Vec F S256x128 .bf16), Vec F S256x128 .bf16 ← P3 (k0_pay5 (xB (I.X c) 0)) (k0_pay7 (xB (I.X c) 0) (k0_pay2 (I.Wk c)))
       let v127 ← P4 v89 v90
       let ⟨v154, v162⟩ : Σ' (v154 : Vec F S256x128 .bf16), FVec F S256x256 .f32 ← P5 v127
       let ⟨v196, v197⟩ : Σ' (v154 : Vec F S256x128 .bf16), FVec F S256x256 .f32 ← P6 v154 v162
       P7 v196 v197
       p) Q := by
  unfold Go WP CB Wt anyB
  iintro ⟨-, ⟨⟨Hx, Hwq, Hwk, Hwv, Hwo⟩, Hq, ⟨%k, Hk⟩, ⟨%v, Hv⟩, ⟨%a, Hat⟩⟩, HK⟩
  sl_exec
  iapply HK
  unfold CE Wt anyB
  isplitl [Hx Hwq Hwk Hwv Hwo]
  · isplitl [Hx]; · iexact Hx
    isplitl [Hwq]; · iexact Hwq
    isplitl [Hwk]; · iexact Hwk
    isplitl [Hwv]; · iexact Hwv
    iexact Hwo
  isplitl [Hq]; · iexists _; iexact Hq
  isplitl [Hk]; · iexists _; iexact Hk
  isplitl [Hv]; · iexists _; iexact Hv
  rw [show attnB I c 0 = attnV (k0_pay6 (xB (I.X c) 0) (k0_pay1 (I.Wq c))) (k0_pay6 (xB (I.X c) 0) (k0_pay2 (I.Wk c))) (k0_pay6 (xB (I.X c) 0) (k0_pay3 (I.Wv c))) from rfl, attn_writes a (k0_pay6 (xB (I.X c) 0) (k0_pay1 (I.Wq c))) (k0_pay6 (xB (I.X c) 0) (k0_pay2 (I.Wk c))) (k0_pay6 (xB (I.X c) 0) (k0_pay3 (I.Wv c))) ?h0 ?h1 ?h2 ?h3 ?h4 ?h5 ?h6 ?h7]
  · iexact Hat
  case h0 => exact head 0 rfl (cov_k _ _ _) (cov_v _ (congrArg (k0_pay6 (xB (I.X c) 0)) (ld_wv _ _)) _)
  case h1 => exact head 1 rfl (cov_k _ _ _) (cov_v _ (congrArg (k0_pay6 (xB (I.X c) 0)) (ld_wv _ _)) _)
  case h2 => exact head 2 rfl (cov_k _ _ _) (cov_v _ (congrArg (k0_pay6 (xB (I.X c) 0)) (ld_wv _ _)) _)
  case h3 => exact head 3 rfl (cov_k _ _ _) (cov_v _ (congrArg (k0_pay6 (xB (I.X c) 0)) (ld_wv _ _)) _)
  case h4 => exact head 4 rfl (cov_k _ _ _) (cov_v _ (congrArg (k0_pay6 (xB (I.X c) 0)) (ld_wv _ _)) _)
  case h5 => exact head 5 rfl (cov_k _ _ _) (cov_v _ (congrArg (k0_pay6 (xB (I.X c) 0)) (ld_wv _ _)) _)
  case h6 => exact head 6 rfl (cov_k _ _ _) (cov_v _ (congrArg (k0_pay6 (xB (I.X c) 0)) (ld_wv _ _)) _)
  case h7 => exact head 7 rfl (cov_k _ _ _) (cov_v _ (congrArg (k0_pay6 (xB (I.X c) 0)) (ld_wv _ _)) _)

set_option maxHeartbeats 400000 in
/-- Batch 1, from its first projection on. -/
theorem seg1 (c : Dev nD) {C : sProp 𝕄} {α : Type} (p : Vec F S256x1024 .bf16 → Vec F S1024x1024 .bf16 → Prog (TpuEff nD τ sig (Elt F) Λ₀ .tc) α) (Q : α → sProp 𝕄) :
    iprop(C ∗ CB I c 1 ∗ (CE I c 1 -∗ Go c (p (attnB I c 1) (k0_pay4 (I.Wo c))) Q)) ⊢ Go (F := F) c (do
       let ⟨v296, v297⟩ : Σ' (v296 : Vec F S256x128 .bf16), FVec F S256x256 .f32 ← P9 (k0_pay28 (xB (I.X c) 1)) (k0_pay30 (xB (I.X c) 1) (k0_pay2 (I.Wk c)))
       P10 v296 v297
       let ⟨v359, v372⟩ : Σ' (v359 : Vec F S256x128 .bf16), FVec F S256x256 .bf16 ← P11
       let ⟨v401, v404, v405⟩ : Σ' (v401 : Vec F S256x128 .bf16) (v404 : FVec F S256x256 .f32), FVec F S256 .f32 ← P12 v359 v372
       let ⟨v441, v442⟩ : Σ' (v441 : Vec F S256x1024 .bf16), Vec F S1024x1024 .bf16 ← P13 v401 v404 v405
       p v441 v442) Q := by
  unfold Go WP CB Wt anyB
  iintro ⟨-, ⟨⟨Hx, Hwq, Hwk, Hwv, Hwo⟩, Hq, ⟨%k, Hk⟩, ⟨%v, Hv⟩, ⟨%a, Hat⟩⟩, HK⟩
  sl_exec
  have hc : atS.view.readCov (seg1.sl.Hat_8 I c) (Rect.unit (s := S256x1024) ![0, 0] S256x1024.size inb_S256x1024_S256x1024_0_0).toLoadRect = attnB I c 1 := attn_cov (k0_pay6 (xB (I.X c) 1) (k0_pay1 (I.Wq c))) (k0_pay6 (xB (I.X c) 1) (k0_pay2 (I.Wk c))) (k0_pay6 (xB (I.X c) 1) (k0_pay3 (I.Wv c)))
    (head 0 rfl (cov_k _ _ _) (cov_v _ (congrArg (k0_pay6 (xB (I.X c) 1)) (ld_wv _ _)) _))
    (head 1 rfl (cov_k _ _ _) (cov_v _ (congrArg (k0_pay6 (xB (I.X c) 1)) (ld_wv _ _)) _))
    (head 2 rfl (cov_k _ _ _) (cov_v _ (congrArg (k0_pay6 (xB (I.X c) 1)) (ld_wv _ _)) _))
    (head 3 rfl (cov_k _ _ _) (cov_v _ (congrArg (k0_pay6 (xB (I.X c) 1)) (ld_wv _ _)) _))
    (head 4 rfl (cov_k _ _ _) (cov_v _ (congrArg (k0_pay6 (xB (I.X c) 1)) (ld_wv _ _)) _))
    (head 5 rfl (cov_k _ _ _) (cov_v _ (congrArg (k0_pay6 (xB (I.X c) 1)) (ld_wv _ _)) _))
    (head 6 rfl (cov_k _ _ _) (cov_v _ (congrArg (k0_pay6 (xB (I.X c) 1)) (ld_wv _ _)) _))
    (head 7 rfl (cov_k _ _ _) (cov_v _ (congrArg (k0_pay6 (xB (I.X c) 1)) (ld_wv _ _)) _))
  have hat : atS.view.writes (Elt F) a (seg1.sl.Hat_8 I c) = attnB I c 1 := attn_writes a (k0_pay6 (xB (I.X c) 1) (k0_pay1 (I.Wq c))) (k0_pay6 (xB (I.X c) 1) (k0_pay2 (I.Wk c))) (k0_pay6 (xB (I.X c) 1) (k0_pay3 (I.Wv c)))
    (head 0 rfl (cov_k _ _ _) (cov_v _ (congrArg (k0_pay6 (xB (I.X c) 1)) (ld_wv _ _)) _))
    (head 1 rfl (cov_k _ _ _) (cov_v _ (congrArg (k0_pay6 (xB (I.X c) 1)) (ld_wv _ _)) _))
    (head 2 rfl (cov_k _ _ _) (cov_v _ (congrArg (k0_pay6 (xB (I.X c) 1)) (ld_wv _ _)) _))
    (head 3 rfl (cov_k _ _ _) (cov_v _ (congrArg (k0_pay6 (xB (I.X c) 1)) (ld_wv _ _)) _))
    (head 4 rfl (cov_k _ _ _) (cov_v _ (congrArg (k0_pay6 (xB (I.X c) 1)) (ld_wv _ _)) _))
    (head 5 rfl (cov_k _ _ _) (cov_v _ (congrArg (k0_pay6 (xB (I.X c) 1)) (ld_wv _ _)) _))
    (head 6 rfl (cov_k _ _ _) (cov_v _ (congrArg (k0_pay6 (xB (I.X c) 1)) (ld_wv _ _)) _))
    (head 7 rfl (cov_k _ _ _) (cov_v _ (congrArg (k0_pay6 (xB (I.X c) 1)) (ld_wv _ _)) _))
  have er : seg1.sl.r_4 I c = k0_pay4 (I.Wo c) := ld_wo _ _
  rw [show seg1.sl.v441 I c = attnB I c 1 from hc, er, hat]
  iapply HK
  unfold CE Wt anyB
  isplitl [Hx Hwq Hwk Hwv Hwo]
  · isplitl [Hx]; · iexact Hx
    isplitl [Hwq]; · iexact Hwq
    isplitl [Hwk]; · iexact Hwk
    isplitl [Hwv]; · iexact Hwv
    iexact Hwo
  isplitl [Hq]; · iexists _; iexact Hq
  isplitl [Hk]; · iexists _; iexact Hk
  isplitl [Hv]; · iexists _; iexact Hv
  iexact Hat

set_option maxHeartbeats 400000 in
/-- Batch 2, from its first two projections on. -/
theorem seg2 (c : Dev nD) {C : sProp 𝕄} {α : Type} (p : FVec F S256x1024 .f32 → FVec F S128x1024 .f32 → BitVec 1 → Prog (TpuEff nD τ sig (Elt F) Λ₀ .tc) α) (Q : α → sProp 𝕄) :
    iprop(C ∗ CB' I c 2 ∗ (CE I c 2 -∗ Go c (p (k0_pay68 (attnB I c 2) (k0_pay4 (I.Wo c))) (k0_pay69 (attnB I c 2) (k0_pay4 (I.Wo c))) (Scalar.cmpi .eq (v2 c) 4#32)) Q)) ⊢ Go (F := F) c (do
       let ⟨v501, v504, v505⟩ : Σ' (v501 : Vec F S256x128 .bf16) (v504 : FVec F S256x256 .f32), FVec F S256 .f32 ← P15 (k0_pay52 (xB (I.X c) 2)) (k0_pay3 (I.Wv c))
       let ⟨v541, v542⟩ : Σ' (v541 : Vec F S256x128 .bf16), Vec F S256x128 .bf16 ← P16 v501 v504 v505
       let v579 : FVec F S256x128 .bf16 ← P17 v541 v542
       let ⟨v606, v614⟩ : Σ' (v606 : Vec F S256x128 .bf16), FVec F S256x256 .f32 ← P18 v579
       let ⟨v648, v649, v650⟩ : Σ' (v648 : FVec F S256x1024 .f32) (v649 : FVec F S128x1024 .f32), BitVec 1 ← P19 (v2 c) v606 v614
       p v648 v649 v650) Q := by
  unfold Go WP CB' Wt anyB
  iintro ⟨-, ⟨⟨Hx, Hwq, Hwk, Hwv, Hwo⟩, Hq, Hk, ⟨%v, Hv⟩, ⟨%a, Hat⟩⟩, HK⟩
  sl_exec
  have hc : atS.view.readCov (seg2.sl.Hat_8 I c) (Rect.unit (s := S256x1024) ![0, 0] S256x1024.size inb_S256x1024_S256x1024_0_0).toLoadRect = attnB I c 2 := attn_cov (k0_pay6 (xB (I.X c) 2) (k0_pay1 (I.Wq c))) (k0_pay6 (xB (I.X c) 2) (k0_pay2 (I.Wk c))) (k0_pay6 (xB (I.X c) 2) (k0_pay3 (I.Wv c)))
    (head 0 rfl rfl (cov_v _ rfl _))
    (head 1 rfl rfl (cov_v _ rfl _))
    (head 2 rfl rfl (cov_v _ rfl _))
    (head 3 rfl rfl (cov_v _ rfl _))
    (head 4 rfl rfl (cov_v _ rfl _))
    (head 5 rfl rfl (cov_v _ rfl _))
    (head 6 rfl rfl (cov_v _ rfl _))
    (head 7 rfl rfl (cov_v _ rfl _))
  have hat : atS.view.writes (Elt F) a (seg2.sl.Hat_8 I c) = attnB I c 2 := attn_writes a (k0_pay6 (xB (I.X c) 2) (k0_pay1 (I.Wq c))) (k0_pay6 (xB (I.X c) 2) (k0_pay2 (I.Wk c))) (k0_pay6 (xB (I.X c) 2) (k0_pay3 (I.Wv c)))
    (head 0 rfl rfl (cov_v _ rfl _))
    (head 1 rfl rfl (cov_v _ rfl _))
    (head 2 rfl rfl (cov_v _ rfl _))
    (head 3 rfl rfl (cov_v _ rfl _))
    (head 4 rfl rfl (cov_v _ rfl _))
    (head 5 rfl rfl (cov_v _ rfl _))
    (head 6 rfl rfl (cov_v _ rfl _))
    (head 7 rfl rfl (cov_v _ rfl _))
  have e6 : seg2.sl.r_6 I c = k0_pay68 (attnB I c 2) (k0_pay4 (I.Wo c)) := congr (congrArg k0_pay68 hc) (ld_wo _ _)
  have e7 : seg2.sl.r_7 I c = k0_pay69 (attnB I c 2) (k0_pay4 (I.Wo c)) := congr (congrArg k0_pay69 hc) (ld_wo _ _)
  rw [e6, e7, show seg2.sl.v650 c = Scalar.cmpi .eq (v2 c) 4#32 from rfl, hat]
  iapply HK
  unfold CE Wt anyB
  isplitl [Hx Hwq Hwk Hwv Hwo]
  · isplitl [Hx]; · iexact Hx
    isplitl [Hwq]; · iexact Hwq
    isplitl [Hwk]; · iexact Hwk
    isplitl [Hwv]; · iexact Hwv
    iexact Hwo
  isplitl [Hq]; · iexists _; iexact Hq
  isplitl [Hk]; · iexists _; iexact Hk
  isplitl [Hv]; · iexists _; iexact Hv
  iexact Hat

/-- Head `h` of the last batch. -/
def hd3 (c : Dev nD) (h : Fin 8) : Vec F S256x128 .bf16 :=
  k0_pay10 (colB (k0_pay6 (xB (I.X c) 3) (k0_pay1 (I.Wq c))) h) (colB (k0_pay6 (xB (I.X c) 3) (k0_pay2 (I.Wk c))) h)
    (colB (k0_pay6 (xB (I.X c) 3) (k0_pay3 (I.Wv c))) h)
/-- Heads 0 to 5 of the last batch, as stored. -/
def six (c : Dev nD) : List (View.Piece (Elt F) S256x1024 .bf16) :=
  [⟨Rect.unit (s := S256x1024) ![0, 640] S256x128.size (inb_col 5), hd3 I c 5⟩, ⟨Rect.unit (s := S256x1024) ![0, 512] S256x128.size (inb_col 4), hd3 I c 4⟩, ⟨Rect.unit (s := S256x1024) ![0, 384] S256x128.size (inb_col 3), hd3 I c 3⟩, ⟨Rect.unit (s := S256x1024) ![0, 256] S256x128.size (inb_col 2), hd3 I c 2⟩, ⟨Rect.unit (s := S256x1024) ![0, 128] S256x128.size (inb_col 1), hd3 I c 1⟩, ⟨Rect.unit (s := S256x1024) ![0, 0] S256x128.size (inb_col 0), hd3 I c 0⟩]
/-- The stores of the last batch's first six heads, when each stores its head's block, are the listed ones. -/
theorem six_writes (c : Dev nD) (f : Vec F S256x1024 .bf16) {w0 w1 w2 w3 w4 w5 : Vec F S256x128 .bf16} (h0 : w0 = hd3 I c 0) (h1 : w1 = hd3 I c 1) (h2 : w2 = hd3 I c 2) (h3 : w3 = hd3 I c 3) (h4 : w4 = hd3 I c 4) (h5 : w5 = hd3 I c 5) :
    atS.view.writes (Elt F) f [(⟨Rect.unit (s := S256x1024) ![0, 640] S256x128.size (inb_col 5), w5⟩ : View.Piece (Elt F) S256x1024 .bf16), (⟨Rect.unit (s := S256x1024) ![0, 512] S256x128.size (inb_col 4), w4⟩ : View.Piece (Elt F) S256x1024 .bf16), (⟨Rect.unit (s := S256x1024) ![0, 384] S256x128.size (inb_col 3), w3⟩ : View.Piece (Elt F) S256x1024 .bf16), (⟨Rect.unit (s := S256x1024) ![0, 256] S256x128.size (inb_col 2), w2⟩ : View.Piece (Elt F) S256x1024 .bf16), (⟨Rect.unit (s := S256x1024) ![0, 128] S256x128.size (inb_col 1), w1⟩ : View.Piece (Elt F) S256x1024 .bf16), (⟨Rect.unit (s := S256x1024) ![0, 0] S256x128.size (inb_col 0), w0⟩ : View.Piece (Elt F) S256x1024 .bf16)] = atS.view.writes (Elt F) f (six I c) := by
  subst h0 h1 h2 h3 h4 h5; rfl
/-- Where the last batch is cut: six heads stored, the seventh loaded. -/
def CM (c : Dev nD) : sProp 𝕄 :=
  iprop(Wt I c ∗ (qS.view.loc (c : Thread nD τ) ↦{fullShare} k0_pay6 (xB (I.X c) 3) (k0_pay1 (I.Wq c)))
    ∗ (kS.view.loc (c : Thread nD τ) ↦{fullShare} k0_pay6 (xB (I.X c) 3) (k0_pay2 (I.Wk c)))
    ∗ (vS.view.loc (c : Thread nD τ) ↦{fullShare} k0_pay6 (xB (I.X c) 3) (k0_pay3 (I.Wv c)))
    ∗ (∃ a, atS.view.loc (c : Thread nD τ) ↦{fullShare} atS.view.writes (Elt F) a (six I c)))

set_option maxHeartbeats 400000 in
/-- The last batch up to its cut. -/
theorem seg3 (c : Dev nD) {C : sProp 𝕄} {α : Type} (p : Vec F S256x128 .bf16 → FVec F S256x256 .bf16 → Prog (TpuEff nD τ sig (Elt F) Λ₀ .tc) α) (Q : α → sProp 𝕄) :
    iprop(C ∗ CB' I c 3 ∗ (CM I c -∗ Go c (p (colB (k0_pay6 (xB (I.X c) 3) (k0_pay3 (I.Wv c))) 6) (k0_pay88 (colB (k0_pay6 (xB (I.X c) 3) (k0_pay1 (I.Wq c))) 6) (colB (k0_pay6 (xB (I.X c) 3) (k0_pay2 (I.Wk c))) 6))) Q)) ⊢ Go (F := F) c (do
       let ⟨v706, v714⟩ : Σ' (v706 : Vec F S256x128 .bf16), FVec F S256x256 .f32 ← P21 (k0_pay78 (xB (I.X c) 3) (k0_pay3 (I.Wv c)))
       let ⟨v748, v749⟩ : Σ' (v748 : Vec F S256x128 .bf16), FVec F S256x256 .f32 ← P22 v706 v714
       P23 v748 v749
       let ⟨v811, v824⟩ : Σ' (v811 : Vec F S256x128 .bf16), FVec F S256x256 .bf16 ← P24
       p v811 v824) Q := by
  unfold Go WP CB' Wt anyB
  iintro ⟨-, ⟨⟨Hx, Hwq, Hwk, Hwv, Hwo⟩, Hq, Hk, ⟨%v, Hv⟩, ⟨%a, Hat⟩⟩, HK⟩
  sl_exec
  have ev : seg3.sl.v811 I c = colB (k0_pay6 (xB (I.X c) 3) (k0_pay3 (I.Wv c))) 6 := cov_v _ rfl _
  have er : seg3.sl.r_2 I c = k0_pay88 (colB (k0_pay6 (xB (I.X c) 3) (k0_pay1 (I.Wq c))) 6) (colB (k0_pay6 (xB (I.X c) 3) (k0_pay2 (I.Wk c))) 6) := rfl
  rw [ev, er]
  iapply HK
  unfold CM Wt
  isplitl [Hx Hwq Hwk Hwv Hwo]
  · isplitl [Hx]; · iexact Hx
    isplitl [Hwq]; · iexact Hwq
    isplitl [Hwk]; · iexact Hwk
    isplitl [Hwv]; · iexact Hwv
    iexact Hwo
  isplitl [Hq]; · iexact Hq
  isplitl [Hk]; · iexact Hk
  isplitl [Hv]
  · have hv : vS.view.writes (Elt F) v (seg3.sl.Hv_1 I c) = k0_pay6 (xB (I.X c) 3) (k0_pay3 (I.Wv c)) := writes_v v inb_S256x1024_S256x1024_0_0 _
    rw [hv]; iexact Hv
  iexists a
  rw [six_writes I c a ?h0 ?h1 ?h2 ?h3 ?h4 ?h5]
  · iexact Hat
  case h0 => exact head 0 rfl rfl (cov_v _ rfl _)
  case h1 => exact head 1 rfl rfl (cov_v _ rfl _)
  case h2 => exact head 2 rfl rfl (cov_v _ rfl _)
  case h3 => exact head 3 rfl rfl (cov_v _ rfl _)
  case h4 => exact head 4 rfl rfl (cov_v _ rfl _)
  case h5 => exact head 5 rfl rfl (cov_v _ rfl _)

set_option maxHeartbeats 400000 in
/-- The last batch from its cut on. -/
theorem seg25 (c : Dev nD) {C : sProp 𝕄} {α : Type} (p : Vec F S256x1024 .bf16 → Vec F S1024x1024 .bf16 → Prog (TpuEff nD τ sig (Elt F) Λ₀ .tc) α) (Q : α → sProp 𝕄) :
    iprop(C ∗ CM I c ∗ (CE I c 3 -∗ Go c (p (attnB I c 3) (k0_pay4 (I.Wo c))) Q)) ⊢ Go (F := F) c (do
       let v827 : Vec F S256x128 .bf16 ← Prog.lift (.load atS (Rect.unit (s := S256x1024) ![0, 768] S256x128.size inb_S256x1024_S256x128_0_768).toLoadRect (View.loadsAt_vmem h_S256x128))
       Prog.lift (.store atS (Rect.unit (s := S256x1024) ![0, 768] S256x128.size inb_S256x1024_S256x128_0_768) (k0_pay89 (colB (k0_pay6 (xB (I.X c) 3) (k0_pay3 (I.Wv c))) 6) (k0_pay88 (colB (k0_pay6 (xB (I.X c) 3) (k0_pay1 (I.Wq c))) 6) (colB (k0_pay6 (xB (I.X c) 3) (k0_pay2 (I.Wk c))) 6))) Finset.univ (View.stores_vmem h_S256x128 ((isW _).storeExact_slice rfl _ packedbf16_S256x1024_S256x128_0_768) (fun _ => rfl)) (.inl rfl))
       let v830 : Vec F S256x128 .bf16 ← Prog.lift (.load qS (Rect.unit (s := S256x1024) ![0, 896] S256x128.size inb_S256x1024_S256x128_0_896).toLoadRect (View.loadsAt_vmem h_S256x128))
       let v831 : Vec F S256x128 .bf16 ← Prog.lift (.load kS (Rect.unit (s := S256x1024) ![0, 896] S256x128.size inb_S256x1024_S256x128_0_896).toLoadRect (View.loadsAt_vmem h_S256x128))
       let v832 : Vec F S256x128 .bf16 ← Prog.lift (.load vS (Rect.unit (s := S256x1024) ![0, 896] S256x128.size inb_S256x1024_S256x128_0_896).toLoadRect (View.loadsAt_vmem h_S256x128))
       let v848 : Vec F S256x128 .bf16 ← Prog.lift (.load atS (Rect.unit (s := S256x1024) ![0, 896] S256x128.size inb_S256x1024_S256x128_0_896).toLoadRect (View.loadsAt_vmem h_S256x128))
       Prog.lift (.store atS (Rect.unit (s := S256x1024) ![0, 896] S256x128.size inb_S256x1024_S256x128_0_896) (k0_pay90 v830 v831 v832) Finset.univ (View.stores_vmem h_S256x128 ((isW _).storeExact_slice rfl _ packedbf16_S256x1024_S256x128_0_896) (fun _ => rfl)) (.inl rfl))
       let v851 : Vec F S256x1024 .bf16 ← Prog.lift (.load atS (Rect.unit (s := S256x1024) ![0, 0] S256x1024.size inb_S256x1024_S256x1024_0_0).toLoadRect (View.loadsAt_vmem h_S256x1024))
       let v852 : Vec F S1024x1024 .bf16 ← Prog.lift (.load woS (Rect.unit (s := S1024x1024) ![0, 0] S1024x1024.size inb_S1024x1024_S1024x1024_0_0).toLoadRect (View.loadsAt_vmem h_S1024x1024))
       p v851 v852) Q := by
  unfold Go WP CM Wt
  iintro ⟨-, ⟨⟨Hx, Hwq, Hwk, Hwv, Hwo⟩, Hq, Hk, Hv, ⟨%a0, Hat⟩⟩, HK⟩
  generalize ha : atS.view.writes (Elt F) a0 (six I c) = a
  sl_exec
  have hat : atS.view.writes (Elt F) a (seg25.sl.Hat_2 I c) = attnB I c 3 := by
    rw [← ha]
    exact attn_writes a0 (k0_pay6 (xB (I.X c) 3) (k0_pay1 (I.Wq c))) (k0_pay6 (xB (I.X c) 3) (k0_pay2 (I.Wk c))) (k0_pay6 (xB (I.X c) 3) (k0_pay3 (I.Wv c)))
      (head 0 rfl rfl rfl)
      (head 1 rfl rfl rfl)
      (head 2 rfl rfl rfl)
      (head 3 rfl rfl rfl)
      (head 4 rfl rfl rfl)
      (head 5 rfl rfl rfl)
      (head 6 rfl rfl rfl)
      (head 7 rfl rfl rfl)
  rw [hat]
  rw [show View.readAt (Elt F) atS.view (Rect.unit (s := S256x1024) ![0, 0] S256x1024.size inb_S256x1024_S256x1024_0_0).toLoadRect (attnB I c 3) = attnB I c 3
    from View.readAt_full _ _ _, show View.readAt (Elt F) woS.view (Rect.unit (s := S1024x1024) ![0, 0] S1024x1024.size inb_S1024x1024_S1024x1024_0_0).toLoadRect
          (k0_pay4 (I.Wo c)) = k0_pay4 (I.Wo c) from View.readAt_full _ _ _]
  iapply HK
  unfold CE Wt anyB
  isplitl [Hx Hwq Hwk Hwv Hwo]
  · isplitl [Hx]; · iexact Hx
    isplitl [Hwq]; · iexact Hwq
    isplitl [Hwk]; · iexact Hwk
    isplitl [Hwv]; · iexact Hwv
    iexact Hwo
  isplitl [Hq]; · iexists _; iexact Hq
  isplitl [Hk]; · iexists _; iexact Hk
  isplitl [Hv]; · iexists _; iexact Hv
  iexact Hat

end Cert.KProof
end
-- ==== Proof.Parts.lean ====
/-
  The parts of the kernel that mix computing and exchange.
-/
module

public import proofs.«01_k».proof.Proof.Compute

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (I : Ins F) (K : Dev nD × CK → ℕ)

/-! ## Loading the weights -/

/-- A whole load of the kept query weight is the weight. -/
theorem rd_q (inb : ∀ a, (![0, 0] : Fin 2 → ℕ) a + S1024x1024.size a ≤ S1024x1024.size a) (w : Vec F S1024x1024 .bf16) :
    View.readAt (Elt F) wqS.view (Rect.unit (s := S1024x1024) ![0, 0] S1024x1024.size inb).toLoadRect w = w := View.readAt_full _ _ _
/-- A whole load of the kept key weight is the weight. -/
theorem rd_k (inb : ∀ a, (![0, 0] : Fin 2 → ℕ) a + S1024x1024.size a ≤ S1024x1024.size a) (w : Vec F S1024x1024 .bf16) :
    View.readAt (Elt F) wkS.view (Rect.unit (s := S1024x1024) ![0, 0] S1024x1024.size inb).toLoadRect w = w := View.readAt_full _ _ _
/-- A whole load of the kept value weight is the weight. -/
theorem rd_v (inb : ∀ a, (![0, 0] : Fin 2 → ℕ) a + S1024x1024.size a ≤ S1024x1024.size a) (w : Vec F S1024x1024 .bf16) :
    View.readAt (Elt F) wvS.view (Rect.unit (s := S1024x1024) ![0, 0] S1024x1024.size inb).toLoadRect w = w := View.readAt_full _ _ _
/-- A whole load of the kept output weight is the weight. -/
theorem rd_o (inb : ∀ a, (![0, 0] : Fin 2 → ℕ) a + S1024x1024.size a ≤ S1024x1024.size a) (w : Vec F S1024x1024 .bf16) :
    View.readAt (Elt F) woS.view (Rect.unit (s := S1024x1024) ![0, 0] S1024x1024.size inb).toLoadRect w = w := View.readAt_full _ _ _
/-- A whole load of the query weight's argument is the argument. -/
theorem ra_q (inb : ∀ a, (![0, 0] : Fin 2 → ℕ) a + S1024x1024.size a ≤ S1024x1024.size a) (w : Vec F S1024x1024 .bf16) :
    View.readAt (Elt F) wqM.view (Rect.unit (s := S1024x1024) ![0, 0] S1024x1024.size inb).toLoadRect w = w := View.readAt_full _ _ _
/-- A whole load of the output weight's argument is the argument. -/
theorem ra_o (inb : ∀ a, (![0, 0] : Fin 2 → ℕ) a + S1024x1024.size a ≤ S1024x1024.size a) (w : Vec F S1024x1024 .bf16) :
    View.readAt (Elt F) woM.view (Rect.unit (s := S1024x1024) ![0, 0] S1024x1024.size inb).toLoadRect w = w := View.readAt_full _ _ _
/-- A whole load of the key weight's argument is the argument. -/
theorem ra_k (inb : ∀ a, (![0, 0] : Fin 2 → ℕ) a + S1024x1024.size a ≤ S1024x1024.size a) (w : Vec F S1024x1024 .bf16) :
    View.readAt (Elt F) wkM.view (Rect.unit (s := S1024x1024) ![0, 0] S1024x1024.size inb).toLoadRect w = w := View.readAt_full _ _ _
/-- A whole load of the value weight's argument is the argument. -/
theorem ra_v (inb : ∀ a, (![0, 0] : Fin 2 → ℕ) a + S1024x1024.size a ≤ S1024x1024.size a) (w : Vec F S1024x1024 .bf16) :
    View.readAt (Elt F) wvM.view (Rect.unit (s := S1024x1024) ![0, 0] S1024x1024.size inb).toLoadRect w = w := View.readAt_full _ _ _
/-- A whole store to the kept query weight leaves what is stored. -/
theorem wr_wq (inb : ∀ a, (![0, 0] : Fin 2 → ℕ) a + S1024x1024.size a ≤ S1024x1024.size a) (f w : Vec F S1024x1024 .bf16) :
    wqS.view.writes (Elt F) f [⟨Rect.unit (s := S1024x1024) ![0, 0] S1024x1024.size inb, w⟩] = w := Memref.write_access_unit_zero_univ (Elt F) cc0_scratch0 zz2 inb f w
/-- A whole store to the kept key weight leaves what is stored. -/
theorem wr_wk (inb : ∀ a, (![0, 0] : Fin 2 → ℕ) a + S1024x1024.size a ≤ S1024x1024.size a) (f w : Vec F S1024x1024 .bf16) :
    wkS.view.writes (Elt F) f [⟨Rect.unit (s := S1024x1024) ![0, 0] S1024x1024.size inb, w⟩] = w := Memref.write_access_unit_zero_univ (Elt F) cc0_scratch1 zz2 inb f w
/-- A whole store to the kept value weight leaves what is stored. -/
theorem wr_wv (inb : ∀ a, (![0, 0] : Fin 2 → ℕ) a + S1024x1024.size a ≤ S1024x1024.size a) (f w : Vec F S1024x1024 .bf16) :
    wvS.view.writes (Elt F) f [⟨Rect.unit (s := S1024x1024) ![0, 0] S1024x1024.size inb, w⟩] = w := Memref.write_access_unit_zero_univ (Elt F) cc0_scratch2 zz2 inb f w
/-- A whole store to the kept output weight leaves what is stored. -/
theorem wr_wo (inb : ∀ a, (![0, 0] : Fin 2 → ℕ) a + S1024x1024.size a ≤ S1024x1024.size a) (f w : Vec F S1024x1024 .bf16) :
    woS.view.writes (Elt F) f [⟨Rect.unit (s := S1024x1024) ![0, 0] S1024x1024.size inb, w⟩] = w := Memref.write_access_unit_zero_univ (Elt F) cc0_scratch3 zz2 inb f w
/-- A whole load of the attention buffer is the buffer. -/
theorem rd_at (inb : ∀ a, (![0, 0] : Fin 2 → ℕ) a + S256x1024.size a ≤ S256x1024.size a) (w : Vec F S256x1024 .bf16) :
    View.readAt (Elt F) atS.view (Rect.unit (s := S256x1024) ![0, 0] S256x1024.size inb).toLoadRect w = w := View.readAt_full _ _ _
/-- A whole store of the batch's queries leaves what is stored. -/
theorem wr_q (inb : ∀ a, (![0, 0] : Fin 2 → ℕ) a + S256x1024.size a ≤ S256x1024.size a) (f w : Vec F S256x1024 .bf16) :
    qS.view.writes (Elt F) f [⟨Rect.unit (s := S256x1024) ![0, 0] S256x1024.size inb, w⟩] = w := Memref.write_access_unit_zero_univ (Elt F) cc0_scratch4 zz2 inb f w
/-- A whole store of the batch's keys leaves what is stored. -/
theorem wr_k (inb : ∀ a, (![0, 0] : Fin 2 → ℕ) a + S256x1024.size a ≤ S256x1024.size a) (f w : Vec F S256x1024 .bf16) :
    kS.view.writes (Elt F) f [⟨Rect.unit (s := S256x1024) ![0, 0] S256x1024.size inb, w⟩] = w := Memref.write_access_unit_zero_univ (Elt F) cc0_scratch5 zz2 inb f w

/-- The arguments where the launch stages them, and what else the first part needs: the kept weights' buffers and the batch's, whatever they hold. -/
def Ar (c : Dev nD) : sProp 𝕄 :=
  iprop((wqM.view.loc (c : Thread nD τ) ↦{fullShare} I.Wq c) ∗ (woM.view.loc (c : Thread nD τ) ↦{fullShare} I.Wo c)
    ∗ (wkM.view.loc (c : Thread nD τ) ↦{fullShare} I.Wk c) ∗ (wvM.view.loc (c : Thread nD τ) ↦{fullShare} I.Wv c))
def anyW (c : Dev nD) (M : Memref sig .tc .vmem S1024x1024 .bf16) : sProp 𝕄 := iprop(∃ f, M.view.loc (c : Thread nD τ) ↦{fullShare} f)
def C0 (c : Dev nD) : sProp 𝕄 :=
  iprop((xM.view.loc (c : Thread nD τ) ↦{fullShare} I.X c) ∗ Ar I c ∗ (anyW c wqS ∗ anyW c wkS ∗ anyW c wvS ∗ anyW c woS) ∗ anyB c qS ∗ anyB c kS ∗ anyB c vS ∗ anyB c atS)

set_option maxHeartbeats 400000 in
/-- Part 2: the weights, and the first projection of batch 0. -/
theorem part2 (c : Dev nD) {C : sProp 𝕄} (Q : (Σ' (_ : FVec F S256x1024 .bf16), FVec F S256x1024 .f32) → sProp 𝕄) :
    iprop(C ∗ C0 I c ∗ (iprop(CB I c 0 ∗ Ar I c) -∗ Q ⟨k0_pay5 (xB (I.X c) 0), k0_pay7 (xB (I.X c) 0) (k0_pay2 (I.Wk c))⟩)) ⊢ Go (F := F) c P2 Q := by
  unfold P2; rw [k0_part2_eq_skeleton]; unfold k0_part2_skel
  unfold Go WP C0 Ar anyW anyB
  iintro ⟨-, ⟨Hx, ⟨Hq0, Ho0, Hk0, Hv0⟩, ⟨⟨%wq, Hwq⟩, ⟨%wk, Hwk⟩, ⟨%wv, Hwv⟩, ⟨%wo, Hwo⟩⟩, ⟨%q, Hq⟩, ⟨%k, Hk⟩, ⟨%v, Hv⟩, ⟨%a, Hat⟩⟩, HK⟩
  sl_exec
  have eq1 : wqS.view.writes (Elt F) wq (part2.sl.Hwq_1 I c) = k0_pay1 (I.Wq c) := (wr_wq _ _ _).trans (congrArg k0_pay1 (ra_q _ _))
  have ek1 : wkS.view.writes (Elt F) wk (part2.sl.Hwk_1 I c) = k0_pay2 (I.Wk c) := (wr_wk _ _ _).trans (congrArg k0_pay2 (ra_k _ _))
  have eq2 : part2.sl.v50 I c = k0_pay1 (I.Wq c) := (View.readCov_full _ _ _ _ _).trans (congrArg k0_pay1 (ra_q _ _))
  have ek2 : part2.sl.v56 I c = k0_pay2 (I.Wk c) := (View.readCov_full _ _ _ _ _).trans (congrArg k0_pay2 (ra_k _ _))
  rw [eq1, ek1, eq2, ek2, wr_wv, wr_wo, ra_v, ra_o, wr_q, show View.readAt (Elt F) xM.view
    (Rect.unit (s := S4x256x1024) ![0, 0, 0] S1x256x1024.size inb_S4x256x1024_S1x256x1024_0_0_0).toLoadRect (I.1 c) = xB (I.X c) 0 from rfl]
  rw [wp_ret]
  imodintro
  iapply HK
  unfold CB Wt anyB
  isplitr [Hq0 Ho0 Hk0 Hv0]
  · isplitl [Hx Hwq Hwk Hwv Hwo]
    · isplitl [Hx]; · iexact Hx
      isplitl [Hwq]; · iexact Hwq
      isplitl [Hwk]; · iexact Hwk
      isplitl [Hwv]; · iexact Hwv
      iexact Hwo
    isplitl [Hq]; · iexact Hq
    isplitl [Hk]; · iexists _; iexact Hk
    isplitl [Hv]; · iexists _; iexact Hv
    iexists _; iexact Hat
  isplitl [Hq0]; · iexact Hq0
  isplitl [Ho0]; · iexact Ho0
  isplitl [Hk0]; · iexact Hk0
  iexact Hv0

/-- The loads part 8 starts with. -/
theorem front8 (c : Dev nD) {C : sProp 𝕄} {α : Type} (p : Vec F S256x1024 .bf16 → Vec F S1024x1024 .bf16 → Prog (TpuEff nD τ sig (Elt F) Λ₀ .tc) α) (Q : α → sProp 𝕄) :
    iprop(C ∗ CE I c 0 ∗ (CE I c 0 -∗ Go c (p (attnB I c 0) (k0_pay4 (I.Wo c))) Q)) ⊢ Go (F := F) c (do
      let v236 : Vec F S256x1024 .bf16 ← Prog.lift (.load atS (Rect.unit (s := S256x1024) ![0, 0] S256x1024.size inb_S256x1024_S256x1024_0_0).toLoadRect (View.loadsAt_vmem h_S256x1024))
      let v237 : Vec F S1024x1024 .bf16 ← Prog.lift (.load woS (Rect.unit (s := S1024x1024) ![0, 0] S1024x1024.size inb_S1024x1024_S1024x1024_0_0).toLoadRect (View.loadsAt_vmem h_S1024x1024))
      p v236 v237) Q := by
  unfold Go WP CE Wt anyB
  iintro ⟨-, ⟨⟨Hx, Hwq, Hwk, Hwv, Hwo⟩, ⟨%q, Hq⟩, ⟨%k, Hk⟩, ⟨%v, Hv⟩, Hat⟩, HK⟩
  sl_exec
  rw [rd_at, rd_o]
  iapply HK
  isplitl [Hx Hwq Hwk Hwv Hwo]
  · isplitl [Hx]; · iexact Hx
    isplitl [Hwq]; · iexact Hwq
    isplitl [Hwk]; · iexact Hwk
    isplitl [Hwv]; · iexact Hwv
    iexact Hwo
  isplitl [Hq]; · iexists _; iexact Hq
  isplitl [Hk]; · iexists _; iexact Hk
  isplitl [Hv]; · iexists _; iexact Hv
  iexact Hat

set_option maxHeartbeats 400000 in
/-- The end of part 8: the projections batch 1 starts from. -/
theorem tail8 (c : Dev nD) {C : sProp 𝕄} (Q : (Σ' (_ : FVec F S256x1024 .bf16), FVec F S256x1024 .bf16) → sProp 𝕄) :
    iprop(C ∗ CE I c 0 ∗ (CB I c 1 -∗ Q ⟨k0_pay28 (xB (I.X c) 1), k0_pay30 (xB (I.X c) 1) (k0_pay2 (I.Wk c))⟩)) ⊢ Go (F := F) c (do
      let v253 : Vec F S1x256x1024 .bf16 ← Prog.lift (.load xM (Rect.unit (s := S4x256x1024) ![1, 0, 0] S1x256x1024.size inb_S4x256x1024_S1x256x1024_1_0_0).toLoadRect (View.loadsAt_vmem h_S1x256x1024))
      let v255 : Vec F S1024x1024 .bf16 ← Prog.lift (.load wqS (Rect.unit (s := S1024x1024) ![0, 0] S1024x1024.size inb_S1024x1024_S1024x1024_0_0).toLoadRect (View.loadsAt_vmem h_S1024x1024))
      let v258 : Vec F S256x1024 .bf16 ← Prog.lift (.load qS (Rect.unit (s := S256x1024) ![0, 0] S256x1024.size inb_S256x1024_S256x1024_0_0).toLoadRect (View.loadsAt_vmem h_S256x1024))
      Prog.lift (.store qS (Rect.unit (s := S256x1024) ![0, 0] S256x1024.size inb_S256x1024_S256x1024_0_0) (k0_pay29 v253 v255) Finset.univ (View.stores_vmem h_S256x1024 ((isW _).storeExact_slice rfl _ packedbf16_S256x1024_S256x1024_0_0) (fun _ => rfl)) (.inl rfl))
      let v261 : Vec F S1024x1024 .bf16 ← Prog.lift (.load wkS (Rect.unit (s := S1024x1024) ![0, 0] S1024x1024.size inb_S1024x1024_S1024x1024_0_0).toLoadRect (View.loadsAt_vmem h_S1024x1024))
      let v264 : Vec F S256x1024 .bf16 ← Prog.lift (.load kS (Rect.unit (s := S256x1024) ![0, 0] S256x1024.size inb_S256x1024_S256x1024_0_0).toLoadRect (View.loadsAt_vmem h_S256x1024))
      pure ⟨k0_pay28 v253, k0_pay30 v253 v261⟩) Q := by
  unfold Go WP CE Wt anyB
  iintro ⟨-, ⟨⟨Hx, Hwq, Hwk, Hwv, Hwo⟩, ⟨%q, Hq⟩, ⟨%k, Hk⟩, ⟨%v, Hv⟩, Hat⟩, HK⟩
  sl_exec
  rw [rd_q, rd_k, wr_q, show View.readAt (Elt F) xM.view
    (Rect.unit (s := S4x256x1024) ![1, 0, 0] S1x256x1024.size inb_S4x256x1024_S1x256x1024_1_0_0).toLoadRect (I.1 c) = xB (I.X c) 1 from rfl]
  rw [wp_ret]
  imodintro
  iapply HK
  unfold CB Wt anyB
  isplitl [Hx Hwq Hwk Hwv Hwo]
  · isplitl [Hx]; · iexact Hx
    isplitl [Hwq]; · iexact Hwq
    isplitl [Hwk]; · iexact Hwk
    isplitl [Hwv]; · iexact Hwv
    iexact Hwo
  isplitl [Hq]; · iexact Hq
  isplitl [Hk]; · iexists _; iexact Hk
  isplitl [Hv]; · iexists _; iexact Hv
  iexists _; iexact Hat

set_option maxHeartbeats 400000 in
/-- The end of part 14: the projections batch 2 starts from. -/
theorem tail14 (c : Dev nD) {C : sProp 𝕄} (Q : (Σ' (_ : FVec F S256x1024 .bf16), Vec F S1024x1024 .bf16) → sProp 𝕄) :
    iprop(C ∗ CE I c 1 ∗ (CB' I c 2 -∗ Q ⟨k0_pay52 (xB (I.X c) 2), k0_pay3 (I.Wv c)⟩)) ⊢ Go (F := F) c (do
      let v458 : Vec F S1x256x1024 .bf16 ← Prog.lift (.load xM (Rect.unit (s := S4x256x1024) ![2, 0, 0] S1x256x1024.size inb_S4x256x1024_S1x256x1024_2_0_0).toLoadRect (View.loadsAt_vmem h_S1x256x1024))
      let v460 : Vec F S1024x1024 .bf16 ← Prog.lift (.load wqS (Rect.unit (s := S1024x1024) ![0, 0] S1024x1024.size inb_S1024x1024_S1024x1024_0_0).toLoadRect (View.loadsAt_vmem h_S1024x1024))
      let v463 : Vec F S256x1024 .bf16 ← Prog.lift (.load qS (Rect.unit (s := S256x1024) ![0, 0] S256x1024.size inb_S256x1024_S256x1024_0_0).toLoadRect (View.loadsAt_vmem h_S256x1024))
      Prog.lift (.store qS (Rect.unit (s := S256x1024) ![0, 0] S256x1024.size inb_S256x1024_S256x1024_0_0) (k0_pay53 v458 v460) Finset.univ (View.stores_vmem h_S256x1024 ((isW _).storeExact_slice rfl _ packedbf16_S256x1024_S256x1024_0_0) (fun _ => rfl)) (.inl rfl))
      let v466 : Vec F S1024x1024 .bf16 ← Prog.lift (.load wkS (Rect.unit (s := S1024x1024) ![0, 0] S1024x1024.size inb_S1024x1024_S1024x1024_0_0).toLoadRect (View.loadsAt_vmem h_S1024x1024))
      let v469 : Vec F S256x1024 .bf16 ← Prog.lift (.load kS (Rect.unit (s := S256x1024) ![0, 0] S256x1024.size inb_S256x1024_S256x1024_0_0).toLoadRect (View.loadsAt_vmem h_S256x1024))
      Prog.lift (.store kS (Rect.unit (s := S256x1024) ![0, 0] S256x1024.size inb_S256x1024_S256x1024_0_0) (k0_pay54 v458 v466) Finset.univ (View.stores_vmem h_S256x1024 ((isW _).storeExact_slice rfl _ packedbf16_S256x1024_S256x1024_0_0) (fun _ => rfl)) (.inl rfl))
      let v472 : Vec F S1024x1024 .bf16 ← Prog.lift (.load wvS (Rect.unit (s := S1024x1024) ![0, 0] S1024x1024.size inb_S1024x1024_S1024x1024_0_0).toLoadRect (View.loadsAt_vmem h_S1024x1024))
      pure ⟨k0_pay52 v458, v472⟩) Q := by
  unfold Go WP CE Wt anyB
  iintro ⟨-, ⟨⟨Hx, Hwq, Hwk, Hwv, Hwo⟩, ⟨%q, Hq⟩, ⟨%k, Hk⟩, ⟨%v, Hv⟩, Hat⟩, HK⟩
  sl_exec
  rw [rd_q, rd_k, rd_v, wr_q, wr_k, show View.readAt (Elt F) xM.view
    (Rect.unit (s := S4x256x1024) ![2, 0, 0] S1x256x1024.size inb_S4x256x1024_S1x256x1024_2_0_0).toLoadRect (I.1 c) = xB (I.X c) 2 from rfl]
  rw [wp_ret]
  imodintro
  iapply HK
  unfold CB' Wt anyB
  isplitl [Hx Hwq Hwk Hwv Hwo]
  · isplitl [Hx]; · iexact Hx
    isplitl [Hwq]; · iexact Hwq
    isplitl [Hwk]; · iexact Hwk
    isplitl [Hwv]; · iexact Hwv
    iexact Hwo
  isplitl [Hq]; · iexact Hq
  isplitl [Hk]; · iexact Hk
  isplitl [Hv]; · iexists _; iexact Hv
  iexists _; iexact Hat

set_option maxHeartbeats 400000 in
/-- The end of part 20: the projections batch 3 starts from. -/
theorem tail20 (c : Dev nD) {C : sProp 𝕄} (Q : FVec F S256x1024 .bf16 → sProp 𝕄) :
    iprop(C ∗ CE I c 2 ∗ (CB' I c 3 -∗ Q (k0_pay78 (xB (I.X c) 3) (k0_pay3 (I.Wv c))))) ⊢ Go (F := F) c (do
      let v663 : Vec F S1x256x1024 .bf16 ← Prog.lift (.load xM (Rect.unit (s := S4x256x1024) ![3, 0, 0] S1x256x1024.size inb_S4x256x1024_S1x256x1024_3_0_0).toLoadRect (View.loadsAt_vmem h_S1x256x1024))
      let v665 : Vec F S1024x1024 .bf16 ← Prog.lift (.load wqS (Rect.unit (s := S1024x1024) ![0, 0] S1024x1024.size inb_S1024x1024_S1024x1024_0_0).toLoadRect (View.loadsAt_vmem h_S1024x1024))
      let v668 : Vec F S256x1024 .bf16 ← Prog.lift (.load qS (Rect.unit (s := S256x1024) ![0, 0] S256x1024.size inb_S256x1024_S256x1024_0_0).toLoadRect (View.loadsAt_vmem h_S256x1024))
      Prog.lift (.store qS (Rect.unit (s := S256x1024) ![0, 0] S256x1024.size inb_S256x1024_S256x1024_0_0) (k0_pay76 v663 v665) Finset.univ (View.stores_vmem h_S256x1024 ((isW _).storeExact_slice rfl _ packedbf16_S256x1024_S256x1024_0_0) (fun _ => rfl)) (.inl rfl))
      let v671 : Vec F S1024x1024 .bf16 ← Prog.lift (.load wkS (Rect.unit (s := S1024x1024) ![0, 0] S1024x1024.size inb_S1024x1024_S1024x1024_0_0).toLoadRect (View.loadsAt_vmem h_S1024x1024))
      let v674 : Vec F S256x1024 .bf16 ← Prog.lift (.load kS (Rect.unit (s := S256x1024) ![0, 0] S256x1024.size inb_S256x1024_S256x1024_0_0).toLoadRect (View.loadsAt_vmem h_S256x1024))
      Prog.lift (.store kS (Rect.unit (s := S256x1024) ![0, 0] S256x1024.size inb_S256x1024_S256x1024_0_0) (k0_pay77 v663 v671) Finset.univ (View.stores_vmem h_S256x1024 ((isW _).storeExact_slice rfl _ packedbf16_S256x1024_S256x1024_0_0) (fun _ => rfl)) (.inl rfl))
      let v677 : Vec F S1024x1024 .bf16 ← Prog.lift (.load wvS (Rect.unit (s := S1024x1024) ![0, 0] S1024x1024.size inb_S1024x1024_S1024x1024_0_0).toLoadRect (View.loadsAt_vmem h_S1024x1024))
      pure (k0_pay78 v663 v677)) Q := by
  unfold Go WP CE Wt anyB
  iintro ⟨-, ⟨⟨Hx, Hwq, Hwk, Hwv, Hwo⟩, ⟨%q, Hq⟩, ⟨%k, Hk⟩, ⟨%v, Hv⟩, Hat⟩, HK⟩
  sl_exec
  rw [rd_q, rd_k, rd_v, wr_q, wr_k, show View.readAt (Elt F) xM.view
    (Rect.unit (s := S4x256x1024) ![3, 0, 0] S1x256x1024.size inb_S4x256x1024_S1x256x1024_3_0_0).toLoadRect (I.1 c) = xB (I.X c) 3 from rfl]
  rw [wp_ret]
  imodintro
  iapply HK
  unfold CB' Wt anyB
  isplitl [Hx Hwq Hwk Hwv Hwo]
  · isplitl [Hx]; · iexact Hx
    isplitl [Hwq]; · iexact Hwq
    isplitl [Hwk]; · iexact Hwk
    isplitl [Hwv]; · iexact Hwv
    iexact Hwo
  isplitl [Hq]; · iexact Hq
  isplitl [Hk]; · iexact Hk
  isplitl [Hv]; · iexists _; iexact Hv
  iexists _; iexact Hat

/-! ## The parts that compute and send -/

/-- The two halves of a state may change places. -/
theorem swap_s {C S T R G : sProp 𝕄} (h : iprop(C ∗ iprop(T ∗ S) ∗ R) ⊢ G) : iprop(C ∗ iprop(S ∗ T) ∗ R) ⊢ G := by
  refine BIBase.Entails.trans ?_ h
  iintro ⟨HC, ⟨HS, HT⟩, HR⟩
  isplitl [HC]; · iexact HC
  isplitr [HR]
  · isplitl [HT] <;> iassumption
  · iexact HR

/-- A state that is what is asked ends the proof. -/
theorem fin_s {C A B G : sProp 𝕄} : iprop(C ∗ B ∗ iprop(A ∗ (iprop(A ∗ B) -∗ G))) ⊢ G := by
  iintro ⟨-, HB, HA, HG⟩
  iapply HG
  isplitl [HA] <;> iassumption

/-- What is staged in an even step. -/
theorem stg_even (c t : Dev nD) (h : t.val % 2 = 0) : stgV I c t = k0_pay24 (attnB I c (bat t)) (k0_pay4 (I.Wo c)) := if_pos h
/-- What is staged in an odd step. -/
theorem stg_odd (c t : Dev nD) (h : ¬ t.val % 2 = 0) : stgV I c t = k0_pay27 (attnB I c (bat t)) (k0_pay4 (I.Wo c)) := if_neg h
/-- What a device keeps of its own chunk in an even step. -/
theorem red_even (c t : Dev nD) (h : t.val % 2 = 0) : c = t → k0_pay23 (attnB I c (bat t)) (k0_pay4 (I.Wo c)) = redV I c := by
  rintro rfl; exact (if_pos h).symm
/-- What a device keeps of its own chunk in an odd step. -/
theorem red_odd (c t : Dev nD) (h : ¬ t.val % 2 = 0) : c = t → k0_pay26 (attnB I c (bat t)) (k0_pay4 (I.Wo c)) = redV I c := by
  rintro rfl; exact (if_neg h).symm

/-- Part 8: batch 0's two chunks, and the projections batch 1 starts from. -/
theorem part8 (c : Dev nD) (Q : (Σ' (_ : FVec F S256x1024 .bf16), FVec F S256x1024 .bf16) → sProp 𝕄) :
    iprop(ctx I K ∗ iprop(S2 I c 0 0 ∗ CE I c 0) ∗ (iprop(S2 I c 2 2 ∗ CB I c 1) -∗ Q ⟨k0_pay28 (xB (I.X c) 1), k0_pay30 (xB (I.X c) 1) (k0_pay2 (I.Wk c))⟩))
      ⊢ Go (F := F) c (P8 c (v2 c)) Q := by
  unfold P8; rw [k0_part8_eq_skeleton]; unfold k0_part8_skel
  obtain ⟨h0, h1, -, -, -, -, -, -⟩ := cond_rs c
  refine swap_s (give_right ?_)
  refine chain (front8 I c _ Q) ?_
  refine take_right (swap_s (give_right ?_))
  refine chain (red_step I K c 0 0 (ceq c 0) (red_even I c 0 (by decide))) ?_
  refine chain (rs_step I K c 0 1 h0 k0_dev9_eq rfl rfl (k0_off1_eq c) (k0_off2_eq c) (stg_even I c 0 (by decide)).symm) ?_
  refine chain (red_step I K c 1 1 (ceq c 1) (red_odd I c 1 (by decide))) ?_
  refine chain (rs_step I K c 1 2 h1 k0_dev10_eq rfl rfl (k0_off3_eq c) (k0_off4_eq c) (stg_odd I c 1 (by decide)).symm) ?_
  refine take_right (swap_s (give_right ?_))
  refine chain (tail8 I c Q) fin_s

/-- Part 14: batch 1's two chunks, and the projections batch 2 starts from. -/
theorem part14 (c : Dev nD) (Q : (Σ' (_ : FVec F S256x1024 .bf16), Vec F S1024x1024 .bf16) → sProp 𝕄) :
    iprop(ctx I K ∗ iprop(S2 I c 2 2 ∗ CE I c 1) ∗ (iprop(S2 I c 4 4 ∗ CB' I c 2) -∗ Q ⟨k0_pay52 (xB (I.X c) 2), k0_pay3 (I.Wv c)⟩))
      ⊢ Go (F := F) c (P14 c (v2 c) (attnB I c 1) (k0_pay4 (I.Wo c))) Q := by
  unfold P14; rw [k0_part14_eq_skeleton]; unfold k0_part14_skel
  obtain ⟨-, -, h0, h1, -, -, -, -⟩ := cond_rs c
  refine give_right ?_
  refine chain (red_step I K c 2 2 (ceq c 2) (red_even I c 2 (by decide))) ?_
  refine chain (rs_step I K c 2 3 h0 k0_dev11_eq rfl rfl (k0_off5_eq c) (k0_off6_eq c) (stg_even I c 2 (by decide)).symm) ?_
  refine chain (red_step I K c 3 3 (ceq c 3) (red_odd I c 3 (by decide))) ?_
  refine chain (rs_step I K c 3 4 h1 k0_dev12_eq rfl rfl (k0_off7_eq c) (k0_off8_eq c) (stg_odd I c 3 (by decide)).symm) ?_
  refine take_right (swap_s (give_right ?_))
  exact chain (tail14 I c Q) fin_s

/-- Part 20: batch 2's two chunks, and the projections batch 3 starts from. -/
theorem part20 (c : Dev nD) (Q : FVec F S256x1024 .bf16 → sProp 𝕄) :
    iprop(ctx I K ∗ iprop(S2 I c 4 4 ∗ CE I c 2) ∗ (iprop(S2 I c 6 6 ∗ CB' I c 3) -∗ Q (k0_pay78 (xB (I.X c) 3) (k0_pay3 (I.Wv c)))))
      ⊢ Go (F := F) c (P20 c (v2 c) (k0_pay68 (attnB I c 2) (k0_pay4 (I.Wo c))) (k0_pay69 (attnB I c 2) (k0_pay4 (I.Wo c))) (Scalar.cmpi .eq (v2 c) 4#32)) Q := by
  unfold P20; rw [k0_part20_eq_skeleton]; unfold k0_part20_skel
  obtain ⟨-, -, -, -, h0, h1, -, -⟩ := cond_rs c
  refine give_right ?_
  refine chain (red_step I K c 4 4 (ceq c 4) (red_even I c 4 (by decide))) ?_
  refine chain (rs_step I K c 4 5 h0 k0_dev13_eq rfl rfl (k0_off9_eq c) (k0_off10_eq c) (stg_even I c 4 (by decide)).symm) ?_
  refine chain (red_step I K c 5 5 (ceq c 5) (red_odd I c 5 (by decide))) ?_
  refine chain (rs_step I K c 5 6 h1 k0_dev14_eq rfl rfl (k0_off11_eq c) (k0_off12_eq c) (stg_odd I c 5 (by decide)).symm) ?_
  refine take_right (swap_s (give_right ?_))
  exact chain (tail20 I c Q) fin_s

/-- Part 25: the end of batch 3, and the device's own part of chunk 6. -/
theorem part25 (c : Dev nD) (Q : (Σ' (_ : FVec F S256x1024 .f32) (_ : FVec F S128x1024 .f32), BitVec 32) → sProp 𝕄) :
    iprop(ctx I K ∗ iprop(S2 I c 6 6 ∗ CM I c) ∗ (iprop(S2 I c 6 7 ∗ CE I c 3)
        -∗ Q ⟨k0_pay91 (attnB I c 3) (k0_pay4 (I.Wo c)), k0_pay92 (attnB I c 3) (k0_pay4 (I.Wo c)), 6#32⟩))
      ⊢ Go (F := F) c (P25 (v2 c) (colB (k0_pay6 (xB (I.X c) 3) (k0_pay3 (I.Wv c))) 6)
          (k0_pay88 (colB (k0_pay6 (xB (I.X c) 3) (k0_pay1 (I.Wq c))) 6) (colB (k0_pay6 (xB (I.X c) 3) (k0_pay2 (I.Wk c))) 6))) Q := by
  unfold P25; rw [k0_part25_eq_skeleton]; unfold k0_part25_skel
  refine swap_s (give_right ?_)
  refine chain (seg25 I c _ Q) ?_
  refine take_right (swap_s (give_right ?_))
  refine chain (red_step I K c 6 6 (ceq c 6) (red_even I c 6 (by decide))) ?_
  exact take_right (chain_ret c)

end Cert.KProof
end
-- ==== Proof.Body.lean ====
/-
  The kernel's body from start to end.
-/
module

public import proofs.«01_k».proof.Proof.Parts

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Ins F) (K : Dev nD × CK → ℕ)

/-! ## What the body starts and ends with -/

/-- The buffer of the device's own chunk, whatever it holds. -/
def redAny (c : Dev nD) : sProp 𝕄 := iprop(∃ f, redM.view.loc (c : Thread nD τ) ↦{fullShare} f)
/-- The tokens of the scatter's credits. -/
def rsT (c : Dev nD) : sProp 𝕄 := bigSep Finset.univ fun t : Dev nD => iprop(dutyTok ER (dCell c 0 t) 0 c ∗ dutyTok ER (dCell t 1 c) 0 c)
/-- The slots of the staging buffer. -/
def stAll (c : Dev nD) : sProp 𝕄 := bigSep Finset.univ fun t : Dev nD => stAny (F := F) c t
/-- The barrier's cell, done with. -/
def barD (c : Dev nD) : sProp 𝕄 := atPos ER (barCell c) 1 ∅ 0
/-- The cells the second half waits on. -/
def ats (c : Dev nD) : sProp 𝕄 := iprop(crB (F := F) c 1 ∗ crB c 3 ∗ atB c 2)
/-- What the body starts with besides the barrier's. -/
def rest0 (c : Dev nD) : sProp 𝕄 := iprop(redAny (F := F) c ∗ stAll c ∗ rsT c ∗ agT c ∗ atB c 0 ∗ ats c)
/-- What it starts with. -/
def bodyIn (c : Dev nD) : sProp 𝕄 := iprop(iprop(barSt c 0 ∗ barW c) ∗ C0 I c ∗ rest0 c)
/-- What it ends with. -/
def bodyOut (c : Dev nD) : sProp 𝕄 :=
  iprop(iprop(ow c 0 ∗ atE c 2 ∗ atE c 3 ∗ (outM.view.loc (c : Thread nD τ) ↦{fullShare} outC I)) ∗ Ar I c ∗ CE I c 3 ∗ barD c ∗ atE c 0 ∗ atE c 1 ∗ stAll c
    ∗ (redM.view.loc (c : Thread nD τ) ↦{fullShare} redV I c) ∗ (rsM.view.loc (c : Thread nD τ) ↦{fullShare} rsC I c))

/-- From the barrier to the scatter. -/
theorem mid0 (c : Dev nD) : iprop(barE c ∗ C0 I c ∗ rest0 c)
    ⊢ iprop(C0 I c ∗ iprop(S2 I c 0 0 ∗ iprop(barD c ∗ outs c ∗ agT c ∗ atB c 0 ∗ ats c))) := by
  unfold barE rest0 S2 rsSt outs barD stAll rsT redAny
  rw [St_zero]
  have h1 : (bigSep Finset.univ fun d => barPay (F := F) c d) ⊢ (iprop((bigSep Finset.univ fun t : Dev nD => rsAny (F := F) t c) ∗ bigSep Finset.univ fun t : Dev nD => outAny (F := F) t c) : sProp 𝕄) :=
    unzipm fun t => BIBase.Entails.rfl
  have h2 : iprop((bigSep Finset.univ fun t : Dev nD => stAny (F := F) c t) ∗ bigSep Finset.univ fun t : Dev nD => iprop(dutyTok ER (dCell c 0 t) 0 c ∗ dutyTok ER (dCell t 1 c) 0 c))
      ⊢ (bigSep Finset.univ fun t : Dev nD => iprop(stAny (F := F) c t ∗ dutyTok ER (dCell c 0 t) 0 c ∗ dutyTok ER (dCell t 1 c) 0 c) : sProp 𝕄) := zipm fun t => BIBase.Entails.rfl
  have h3 : iprop((bigSep Finset.univ fun t : Dev nD => rsAny (F := F) t c) ∗ bigSep Finset.univ fun t : Dev nD => iprop(stAny (F := F) c t ∗ dutyTok ER (dCell c 0 t) 0 c ∗ dutyTok ER (dCell t 1 c) 0 c))
      ⊢ (bigSep Finset.univ (rsPre (F := F) c) : sProp 𝕄) := zipm fun t => BIBase.Entails.rfl
  have h4 : (iprop(∃ f, redM.view.loc (c : Thread nD τ) ↦{fullShare} f) : sProp 𝕄) ⊢ redSt I c 0 := Entails.of_eq (if_neg (Nat.not_lt_zero _)).symm
  iintro ⟨⟨HO, Hb, HP⟩, HC, Hr, Hs, Ht, Hg, Ha, Hz⟩
  ihave HP := h1 $$ HP
  icases HP with ⟨HP, Ho⟩
  isplitl [HC]; · iexact HC
  isplitl [HO Hr Hs Ht HP]
  · isplitl [HO HP Hs Ht]
    · isplitl [HO]; · iexact HO
      iapply h3
      isplitl [HP]; · iexact HP
      iapply h2
      isplitl [Hs] <;> iassumption
    · iapply h4; iexact Hr
  isplitl [Hb]; · iexact Hb
  isplitl [Ho]; · iexact Ho
  isplitl [Hg]; · iexact Hg
  isplitl [Ha] <;> iassumption

/-! ## The batches before a rest of the program that takes their result whole -/

/-- The second batch, before a rest of the program that takes its result as one value. -/
theorem run1 (c : Dev nD) {C : sProp 𝕄} {α : Type} (k : (Σ' (_ : Vec F S256x1024 .bf16), Vec F S1024x1024 .bf16) → Prog (TpuEff nD τ sig (Elt F) Λ₀ .tc) α) (Q : α → sProp 𝕄) :
    iprop(C ∗ CB I c 1 ∗ (CE I c 1 -∗ Go c (k ⟨attnB I c 1, k0_pay4 (I.Wo c)⟩) Q)) ⊢ Go (F := F) c (do
       let ⟨v296, v297⟩ : Σ' (v296 : Vec F S256x128 .bf16), FVec F S256x256 .f32 ← P9 (k0_pay28 (xB (I.X c) 1)) (k0_pay30 (xB (I.X c) 1) (k0_pay2 (I.Wk c)))
       P10 v296 v297
       let ⟨v359, v372⟩ : Σ' (v359 : Vec F S256x128 .bf16), FVec F S256x256 .bf16 ← P11
       let ⟨v401, v404, v405⟩ : Σ' (v401 : Vec F S256x128 .bf16) (v404 : FVec F S256x256 .f32), FVec F S256 .f32 ← P12 v359 v372
       P13 v401 v404 v405 >>= k) Q :=
  seg1 I c (fun a b => k ⟨a, b⟩) Q
/-- The third batch, before a rest of the program that takes its result as one value. -/
theorem run2 (c : Dev nD) {C : sProp 𝕄} {α : Type} (k : (Σ' (_ : FVec F S256x1024 .f32) (_ : FVec F S128x1024 .f32), BitVec 1) → Prog (TpuEff nD τ sig (Elt F) Λ₀ .tc) α) (Q : α → sProp 𝕄) :
    iprop(C ∗ CB' I c 2 ∗ (CE I c 2 -∗ Go c (k ⟨k0_pay68 (attnB I c 2) (k0_pay4 (I.Wo c)), k0_pay69 (attnB I c 2) (k0_pay4 (I.Wo c)), Scalar.cmpi .eq (v2 c) 4#32⟩) Q)) ⊢ Go (F := F) c (do
       let ⟨v501, v504, v505⟩ : Σ' (v501 : Vec F S256x128 .bf16) (v504 : FVec F S256x256 .f32), FVec F S256 .f32 ← P15 (k0_pay52 (xB (I.X c) 2)) (k0_pay3 (I.Wv c))
       let ⟨v541, v542⟩ : Σ' (v541 : Vec F S256x128 .bf16), Vec F S256x128 .bf16 ← P16 v501 v504 v505
       let v579 : FVec F S256x128 .bf16 ← P17 v541 v542
       let ⟨v606, v614⟩ : Σ' (v606 : Vec F S256x128 .bf16), FVec F S256x256 .f32 ← P18 v579
       P19 (v2 c) v606 v614 >>= k) Q :=
  seg2 I c (fun a b d => k ⟨a, b, d⟩) Q
/-- The fourth batch, before a rest of the program that takes its result as one value. -/
theorem run3 (c : Dev nD) {C : sProp 𝕄} {α : Type} (k : (Σ' (_ : Vec F S256x128 .bf16), FVec F S256x256 .bf16) → Prog (TpuEff nD τ sig (Elt F) Λ₀ .tc) α) (Q : α → sProp 𝕄) :
    iprop(C ∗ CB' I c 3 ∗ (CM I c -∗ Go c (k ⟨colB (k0_pay6 (xB (I.X c) 3) (k0_pay3 (I.Wv c))) 6, k0_pay88 (colB (k0_pay6 (xB (I.X c) 3) (k0_pay1 (I.Wq c))) 6) (colB (k0_pay6 (xB (I.X c) 3) (k0_pay2 (I.Wk c))) 6)⟩) Q)) ⊢ Go (F := F) c (do
       let ⟨v706, v714⟩ : Σ' (v706 : Vec F S256x128 .bf16), FVec F S256x256 .f32 ← P21 (k0_pay78 (xB (I.X c) 3) (k0_pay3 (I.Wv c)))
       let ⟨v748, v749⟩ : Σ' (v748 : Vec F S256x128 .bf16), FVec F S256x256 .f32 ← P22 v706 v714
       P23 v748 v749
       P24 >>= k) Q :=
  seg3 I c (fun a b => k ⟨a, b⟩) Q

/-- The body. -/
theorem body (c : Dev nD) (Q : PUnit → sProp 𝕄) :
    iprop(ctx I K ∗ bodyIn I c ∗ (bodyOut I c -∗ Q ⟨⟩)) ⊢ Go (F := F) c (cc0_body (F := F) xM (isW _) wqM (isW _) woM (isW _) wkM (isW _) wvM (isW _) outM (isW _)
      wqS (isW _) wkS (isW _) wvS (isW _) woS (isW _) qS (isW _) kS (isW _) vS (isW _) atS (isW _) redM (isW _) stM (isW _) rsM (isW _)
      cc0_scratch11 cc0_scratch12 cc0_scratch13 cc0_scratch14) Q := by
  rw [cc0_body_eq_skeleton]; unfold cc0_body_skel bodyIn
  refine give_right ?_
  refine chain (bind_step c fun Q' => part1 I K c Q') ?_
  refine take_right (conv (mid0 I c) (give_right ?_))
  refine chain (bind_step c fun Q' => part2 I c Q') ?_
  refine give_right ?_
  refine chain (seg0 I c _ Q) ?_
  refine rearr (iprop(ctx I K ∗ iprop(S2 I c 0 0 ∗ CE I c 0) ∗ iprop(iprop(Ar I c ∗ iprop(barD c ∗ outs c ∗ agT c ∗ atB c 0 ∗ ats c)) ∗ (bodyOut I c -∗ Q ⟨⟩)))) ?_ ?_
  · iintro ⟨HC, HE, HA, ⟨HS, HY⟩, HK⟩
    isplitl [HC]; · iexact HC
    isplitl [HS HE]
    · isplitl [HS] <;> iassumption
    isplitl [HA HY]
    · isplitl [HA] <;> iassumption
    · iexact HK
  refine chain (bind_step c fun Q' => part8 I K c Q') ?_
  refine swap_s (give_right ?_)
  refine chain (run1 I c _ Q) ?_
  refine take_right (swap_s ?_)
  refine chain (bind_step c fun Q' => part14 I K c Q') ?_
  refine swap_s (give_right ?_)
  refine chain (run2 I c _ Q) ?_
  refine take_right (swap_s ?_)
  refine chain (bind_step c fun Q' => part20 I K c Q') ?_
  refine swap_s (give_right ?_)
  refine chain (run3 I c _ Q) ?_
  refine take_right (swap_s ?_)
  refine chain (bind_step c fun Q' => part25 I K c Q') ?_
  refine rearr (iprop(ctx I K ∗ iprop(S2 I c 6 7 ∗ atB c 0) ∗ iprop(iprop(crB c 1 ∗ crB c 3 ∗ atB c 2) ∗ iprop(CE I c 3 ∗ Ar I c ∗ barD c ∗ outs c ∗ agT c) ∗ (bodyOut I c -∗ Q ⟨⟩)))) ?_ ?_
  · unfold ats
    iintro ⟨HC, ⟨HS, HE⟩, ⟨HA, Hb, Ho, Hg, Ha, Hz⟩, HK⟩
    isplitl [HC]; · iexact HC
    isplitl [HS Ha]
    · isplitl [HS] <;> iassumption
    isplitl [Hz]; · iexact Hz
    isplitr [HK]
    · isplitl [HE]; · iexact HE
      isplitl [HA]; · iexact HA
      isplitl [Hb]; · iexact Hb
      isplitl [Ho] <;> iassumption
    · iexact HK
  refine chain (bind_step c fun Q' => part26 I K c _ _ rfl (fun h => by subst h; rfl) rfl Q') ?_
  refine rearr (iprop(ctx I K ∗ iprop(WSt I (R0 c) c 0 (O₁ c) 7 ∗ crB c 1) ∗ iprop(redSt I c 8 ∗ iprop(crB c 3 ∗ atB c 2) ∗ iprop(CE I c 3 ∗ Ar I c ∗ barD c ∗ outs c ∗ agT c) ∗ (bodyOut I c -∗ Q ⟨⟩)))) ?_ ?_
  · iintro ⟨HC, ⟨HS, Hr⟩, ⟨H1, H3⟩, HK⟩
    isplitl [HC]; · iexact HC
    isplitl [HS H1]
    · isplitl [HS] <;> iassumption
    isplitl [Hr]; · iexact Hr
    isplitl [H3]; · iexact H3
    iexact HK
  refine chain (bind_step c fun Q' => part27 I K c Q') ?_
  refine rearr (iprop(ctx I K ∗ iprop(zMid I c 4 ∗ redSt I c 8) ∗ iprop(iprop(crB c 3 ∗ atB c 2) ∗ iprop(atE c 0 ∗ stAll c ∗ CE I c 3 ∗ Ar I c ∗ barD c ∗ outs c ∗ agT c) ∗ (bodyOut I c -∗ Q ⟨⟩)))) ?_ ?_
  · unfold stAll
    iintro ⟨HC, ⟨HZ, Ha, Hs⟩, Hr, H3, HR, HK⟩
    isplitl [HC]; · iexact HC
    isplitl [HZ Hr]
    · isplitl [HZ] <;> iassumption
    isplitl [H3]; · iexact H3
    isplitr [HK]
    · isplitl [Ha]; · iexact Ha
      isplitl [Hs]; · iexact Hs
      iexact HR
    · iexact HK
  refine chain (bind_step c fun Q' => part28 I K c Q') ?_
  refine rearr (iprop(ctx I K ∗ iprop((rsM.view.loc (c : Thread nD τ) ↦{fullShare} rsC I c) ∗ outs c ∗ agT c ∗ ow c (O₁ c))
    ∗ iprop(crB c 3 ∗ iprop(atB c 2 ∗ iprop(iprop((redM.view.loc (c : Thread nD τ) ↦{fullShare} redV I c) ∗ atE c 1 ∗ atE c 0 ∗ stAll c ∗ CE I c 3 ∗ Ar I c ∗ barD c) ∗ (bodyOut I c -∗ Q ⟨⟩)))))) ?_ ?_
  · iintro ⟨HC, ⟨Hrs, Hr, HO, H1⟩, ⟨H3, H2⟩, ⟨H0, Hs, HE, HA, Hb, Ho, Hg⟩, HK⟩
    isplitl [HC]; · iexact HC
    isplitl [Hrs Ho Hg HO]
    · isplitl [Hrs]; · iexact Hrs
      isplitl [Ho]; · iexact Ho
      isplitl [Hg] <;> iassumption
    isplitl [H3]; · iexact H3
    isplitl [H2]; · iexact H2
    isplitr [HK]
    · isplitl [Hr]; · iexact Hr
      isplitl [H1]; · iexact H1
      isplitl [H0]; · iexact H0
      isplitl [Hs]; · iexact Hs
      isplitl [HE]; · iexact HE
      isplitl [HA] <;> iassumption
    · iexact HK
  refine chain (bind_step c fun Q' => part29 I K c Q') ?_
  refine rearr (iprop(ctx I K ∗ iprop(agSt I c 2 ∗ crB c 3) ∗ iprop(atB c 2 ∗ iprop(iprop((rsM.view.loc (c : Thread nD τ) ↦{fullShare} rsC I c) ∗ (redM.view.loc (c : Thread nD τ) ↦{fullShare} redV I c) ∗ atE c 1 ∗ atE c 0 ∗ stAll c ∗ CE I c 3 ∗ Ar I c ∗ barD c)
    ∗ (bodyOut I c -∗ Q ⟨⟩))))) ?_ ?_
  · iintro ⟨HC, ⟨HG, Hrs⟩, H3, H2, HR, HK⟩
    isplitl [HC]; · iexact HC
    isplitl [HG H3]
    · isplitl [HG] <;> iassumption
    isplitl [H2]; · iexact H2
    isplitr [HK]
    · isplitl [Hrs] <;> iassumption
    · iexact HK
  refine chain (bind_step c fun Q' => part30 I K c Q') ?_
  refine take_right ?_
  refine chain (bind_step c fun Q' => part31 I K c Q') ?_
  obtain ⟨-, -, -, -, -, -, h6, h7⟩ := cond_agw c
  refine give_right ?_
  refine chain (wait_step I K (fun t => outPts c c (lf t) (outC I)) c 2 6 (O₂ c 8) 3 (above_O₂ c) h6 (by decide) (fun _ => rfl) (fun _ => by exact credit_out c)) ?_
  refine chain (wait_step I K (fun t => outPts c c (lf t) (outC I)) c 2 7 (O₂ c 8) 3 (above_O₂ c) h7 (by decide) (fun _ => rfl) (fun _ => by exact credit_out c)) ?_
  refine take_right (conv (mid7 I c) (rearr (iprop(ctx I K ∗ bodyOut I c ∗ (bodyOut I c -∗ Q ⟨⟩))) ?_ (chain_ret c)))
  unfold bodyOut
  iintro ⟨HC, HM, ⟨Hrs, Hr, H1, H0, Hs, HE, HA, Hb⟩, HK⟩
  isplitl [HC]; · iexact HC
  isplitr [HK]
  · isplitl [HM]; · iexact HM
    isplitl [HA]; · iexact HA
    isplitl [HE]; · iexact HE
    isplitl [Hb]; · iexact Hb
    isplitl [H0]; · iexact H0
    isplitl [H1]; · iexact H1
    isplitl [Hs]; · iexact Hs
    isplitl [Hr] <;> iassumption
  · iexact HK

end Cert.KProof
end
-- ==== Proof.Alloc.lean ====
/-
  What the launch deals each device: its cells' invariants, its positions, the tokens of the credits it pays, and the credits it will meet.
-/
module

public import proofs.«01_k».proof.Proof.Body

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Ins F)

/-! ## Cells and tokens -/

/-- The kernel's own semaphores: the four arrays. -/
abbrev osem : Fin 4 × Dev nD → SemLoc sig := fun p => .dma (dsem p.1 p.2)
def xCells : Finset (GSem nD τ sig) := Finset.univ.map ⟨kcell, kcell_injective⟩

/-- The tokens device `c` pays with towards `t`: a barrier unit, and the four ends of the two transfers. -/
abbrev tokKey (t c : Dev nD) : Fin 5 → Dev nD × CK
  | 0 => (t, .inl ())
  | 1 => (c, .inr (0, t))
  | 2 => (t, .inr (1, c))
  | 3 => (c, .inr (2, t))
  | 4 => (t, .inr (3, c))
/-- A token's cell tells which token of the device it is. -/
theorem tokKey_inj (c t t' : Dev nD) (j j' : Fin 5) (h : tokKey t c j = tokKey t' c j') : t = t' ∧ j = j' := by
  fin_cases j <;> fin_cases j' <;> simp [tokKey] at h ⊢ <;> exact h
abbrev tokOf (x : Dev nD × Dev nD × Fin 5) : GSem nD τ sig × ℕ × Dev nD := (kcell (tokKey x.2.1 x.1 x.2.2), 0, x.1)
/-- No token is named twice. -/
theorem tokOf_injective : Function.Injective tokOf := by
  rintro ⟨c, t, j⟩ ⟨c', t', j'⟩ h
  have hc : c = c' := congrArg (fun x : GSem nD τ sig × ℕ × Dev nD => x.2.2) h
  subst hc
  obtain ⟨ht, hj⟩ := tokKey_inj c t t' j j' (kcell_injective (congrArg Prod.fst h))
  rw [ht, hj]
def xToks : Finset (GSem nD τ sig × ℕ × Dev nD) := Finset.univ.map ⟨tokOf, tokOf_injective⟩

/-- The tokens device `c` pays with. -/
def toks (c : Dev nD) : sProp 𝕄 := iprop((bigSep Finset.univ fun t : Dev nD => dutyTok ER (barCell t) 0 c) ∗ rsT c ∗ agT c)

/-- A conjunction over five, written out. -/
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
/-- A conjunction over four, written out. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A conjunction over one. -/
theorem bigSep_unit (Φ : Unit → sProp 𝕄) : bigSep Finset.univ Φ = Φ () := bigSep_univ_eq_bigSepL [()] (by decide) (by decide) Φ
/-- Over a device's cells: the barrier's, and the four arrays'. -/
theorem bigSep_ck (Φ : CK → sProp 𝕄) : bigSep Finset.univ Φ = iprop(Φ (.inl ()) ∗ (bigSep Finset.univ fun t : Dev nD => Φ (.inr (0, t)))
    ∗ (bigSep Finset.univ fun t : Dev nD => Φ (.inr (1, t))) ∗ (bigSep Finset.univ fun t : Dev nD => Φ (.inr (2, t))) ∗ bigSep Finset.univ fun t : Dev nD => Φ (.inr (3, t))) := by
  rw [bigSep_univ_sum, bigSep_unit, bigSep_univ_prod, bigSep_fin4]; rfl

/-- A device's tokens, by what they are for. -/
theorem toks_deal (c : Dev nD) :
    (bigSep Finset.univ fun y : Dev nD × Fin 5 => dutyTok ER (tokOf (c, y)).1 (tokOf (c, y)).2.1 (tokOf (c, y)).2.2) = (toks c : sProp 𝕄) := by
  unfold toks rsT agT
  rw [bigSep_univ_prod, bigSep_congr (s := Finset.univ) fun (t : Dev nD) _ => bigSep_fin5 (F := F) _]
  simp only [bigSep_sep']
  refine BI.Entails.antisymm ?_ ?_
  · show @BIBase.Entails (sProp 𝕄) _ _ _
    iintro ⟨H0, H1, H2, H3, H4⟩
    isplitl [H0]; · iexact H0
    isplitl [H1 H2]
    · isplitl [H1] <;> iassumption
    isplitl [H3] <;> iassumption
  · show @BIBase.Entails (sProp 𝕄) _ _ _
    iintro ⟨H0, ⟨H1, H2⟩, H3, H4⟩
    isplitl [H0]; · iexact H0
    isplitl [H1]; · iexact H1
    isplitl [H2]; · iexact H2
    isplitl [H3] <;> iassumption

/-- What the launch element deals a device. -/
def G (c : Dev nD) : sProp 𝕄 :=
  iprop((bigSep Finset.univ fun k : CK => roundState ER (Rd I) (kcell (c, k)) 0)
    ∗ (bigSep Finset.univ fun k : CK => atPos ER (kcell (c, k)) 0 ∅ 0) ∗ (bigSep Finset.univ fun k : CK => reached ER (kcell (c, k)) 0) ∗ toks c)

/-- The launch's resources of the exchange, dealt to the devices. -/
theorem fund_x : BI.own (ER (initOf xCells xToks)) ⊢ (|==> bigSep Finset.univ (G I) : sProp 𝕄) := by
  have hX (Φ : GSem nD τ sig → sProp 𝕄) : bigSep xCells Φ = bigSep Finset.univ fun c : Dev nD => bigSep Finset.univ fun k : CK => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => toks_deal c
  have h := Rounds.fund ER (Rd I) xCells xToks
  rw [hX, hX, hX, hT] at h
  unfold G
  simp only [bigSep_sep'] at h ⊢
  refine h.trans (BI.bupd_mono ?_)
  show @BIBase.Entails (sProp 𝕄) _ _ _
  iintro ⟨Hs, Hr, Ha, Ht⟩
  isplitl [Hs]; · iexact Hs
  isplitl [Ha]; · iexact Ha
  isplitl [Hr] <;> iassumption

/-! ## The invariants -/

/-- The semaphores the kernel scopes are the four arrays, all at zero. -/
theorem ownSems_eq (c : Dev nD) : (Pipeline.ownSems0 (Ix := Unit) (Name := ℕ) (U := UU) (Lvl := ℕ) (Val := Elt F) (τ := τ) osem c : sProp 𝕄)
    = bigSep Finset.univ fun p : Fin 4 × Dev nD => semVal (kcell (c, .inr p)) 0 := rfl
/-- The one semaphore that is not scoped is the barrier's, at zero. -/
theorem unscopedSems_eq (c : Dev nD) : (unscopedSems0 c : sProp 𝕄) = semVal (barCell c) 0 := by
  unfold unscopedSems0
  rw [bigSep_eq_bigSepL_of_eq [SemLoc.reg barS] (by decide +kernel) (by decide)]; rfl
/-- All of a device's semaphores at zero. -/
theorem sems_eq (c : Dev nD) : (bigSep Finset.univ fun k : CK => semVal (kcell (c, k)) 0 : sProp 𝕄)
    = iprop(unscopedSems0 c ∗ Pipeline.ownSems0 (Ix := Unit) (Name := ℕ) (U := UU) (Lvl := ℕ) (Val := Elt F) (τ := τ) osem c) := by
  rw [ownSems_eq, unscopedSems_eq, bigSep_univ_sum, bigSep_unit]; rfl

/-- What stays with a device: its positions and its tokens. -/
def lin (c : Dev nD) : sProp 𝕄 := iprop((bigSep Finset.univ fun k : CK => atPos ER (kcell (c, k)) 0 ∅ 0) ∗ toks c)
def G' (c : Dev nD) : sProp 𝕄 := iprop(∃ K, (invs I K ∗ rch) ∗ lin c)

/-- A device turns its semaphores into cells of the schedule. -/
theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : CK => iprop(∃ κ : ℕ, cellInv ER (Rd I) κ (kcell (c, k))))
          ∗ (bigSep Finset.univ fun k : CK => reached ER (kcell (c, k)) 0) ∗ lin c) := by
  have h : iprop((bigSep Finset.univ fun k : CK => semVal (kcell (c, k)) 0) ∗ bigSep Finset.univ fun k : CK => roundState ER (Rd I) (kcell (c, k)) 0)
      ⊢ (|={Set.univ}=> bigSep Finset.univ fun k : CK => iprop(∃ κ : ℕ, cellInv ER (Rd I) κ (kcell (c, k))) : sProp 𝕄) := by
    rw [← bigSep_sep']
    exact (bigSep_mono fun k _ => (Rounds.body_intro ER (Rd I) (kcell (c, k))).trans inv_alloc).trans (bigSep_fupd _ _)
  rw [sems_eq] at h
  unfold G lin
  iintro ⟨Hos, Hus, Hst, Hat, Hr, Ht⟩
  imod h $$ [Hos Hus Hst] with HI
  · isplitl [Hos Hus]
    · isplitl [Hus] <;> iassumption
    iexact Hst
  imodintro
  isplitl [HI]; · iexact HI
  isplitl [Hr]; · iexact Hr
  isplitl [Hat] <;> iassumption

/-- A fact that can be copied goes to every device. -/
theorem share_all {R : sProp 𝕄} [BI.Persistent R] {Φ Ψ : Dev nD → sProp 𝕄} (h : ∀ i, iprop(R ∗ Φ i) ⊢ Ψ i) :
    iprop(R ∗ bigSep Finset.univ Φ) ⊢ bigSep Finset.univ Ψ :=
  (sep_mono_left (BI.bigSep_of_persistent Finset.univ R)).trans (by rw [← bigSep_sep']; exact bigSep_mono fun i _ => h i)

/-- What every device allocated, put together and dealt again: all devices learn of all cells. -/
theorem regroup :
    (bigSep Finset.univ fun c : Dev nD => iprop((bigSep Finset.univ fun k : CK => iprop(∃ κ : ℕ, cellInv ER (Rd I) κ (kcell (c, k))))
          ∗ (bigSep Finset.univ fun k : CK => reached ER (kcell (c, k)) 0) ∗ lin c) : sProp 𝕄)
      ⊢ bigSep Finset.univ (G' I) := by
  rw [bigSep_sep', bigSep_sep', ← bigSep_univ_prod (fun p : Dev nD × CK => iprop(∃ κ : ℕ, cellInv ER (Rd I) κ (kcell p))),
    ← bigSep_univ_prod (fun p : Dev nD × CK => (reached ER (kcell p) 0 : sProp 𝕄))]
  iintro ⟨HI, #HR, Hl⟩
  ihave HK := (BI.bigSep_exists_pi Finset.univ (fun (p : Dev nD × CK) (κ : ℕ) => (cellInv ER (Rd I) κ (kcell p) : sProp 𝕄))) $$ HI
  icases HK with ⟨%K, #HI⟩
  iapply (share_all (R := iprop(invs I K ∗ rch)) (Φ := lin) (Ψ := G' I) fun c => by unfold G'; iintro H; iexists K; iexact H)
  isplitr
  · isplitl
    · unfold invs; iexact HI
    · unfold rch; iexact HR
  · iexact Hl

/-- Every device's invariants at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credits -/

/-- A tally at one cell, read at another. -/
theorem tally_cell (p q : Dev nD × CK) (n : ℕ) : tallyAt (kcell p) () n (kcell q) () = if q = p then n else 0 := by
  rw [tallyAt_apply]
  by_cases h : q = p
  · rw [if_pos h, if_pos ⟨congrArg kcell h, rfl⟩]
  · rw [if_neg h, if_neg fun h' => h (kcell_injective h'.1)]
/-- What a list of peers is owed, as a sum. -/
theorem owe_sum (f : Dev nD → CellTallies nD τ sig Unit) (g : GSem nD τ sig) : owe f peers g () = ∑ t : Dev nD, f t g () := by
  show (0 + f 7 + f 6 + f 5 + f 4 + f 3 + f 2 + f 1 + f 0) g () = _
  rw [show (∑ t : Dev nD, f t g ()) = ∑ t : Fin 8, f t g () from rfl, Fin.sum_univ_eight]
  simp only [Pi.add_apply, Finsupp.add_apply, Pi.zero_apply, Finsupp.zero_apply]
  omega
/-- What a device owes a cell at the start, by the three kinds of debt. -/
theorem O₀_cell (d : Dev nD) (q : Dev nD × CK) : O₀ d (kcell q) () = (∑ t : Dev nD, if d = t then 0 else if q = (t, .inr (3, d)) then N else 0)
    + (∑ t : Dev nD, if d = t then 0 else if q = (t, .inr (1, d)) then N else 0) + ∑ t : Dev nD, if d = t then 0 else if q = (t, .inl ()) then 1 else 0 := by
  unfold O₀
  rw [Pi.add_apply, Finsupp.add_apply, Pi.add_apply, Finsupp.add_apply, owe_sum, owe_sum, owe_sum]
  refine congrArg₂ (· + ·) (congrArg₂ (· + ·) ?_ ?_) ?_ <;> refine Finset.sum_congr rfl fun t _ => ?_
  · unfold agO; split
    · rfl
    · exact tally_cell (t, .inr (3, d)) q N
  · unfold rsO; split
    · rfl
    · exact tally_cell (t, .inr (1, d)) q N
  · unfold barO; split
    · rfl
    · exact tally_cell (t, .inl ()) q 1

/-- Exactly one device owes a cell of a transfer between two devices. -/
theorem sum_one (a : Fin 4) (c s : Dev nD) (h : c ≠ s) :
    (∑ d : Dev nD, ∑ t : Dev nD, if d = t then 0 else if ((c, .inr (a, s)) : Dev nD × CK) = (t, .inr (a, d)) then N else 0) = N := by
  rw [Finset.sum_eq_single s, Finset.sum_eq_single c, if_neg (Ne.symm h), if_pos rfl]
  · intro t _ ht; rw [if_neg (c := _ = (t, _)) fun h' => ht (congrArg Prod.fst h').symm, ite_self]
  · intro h'; exact absurd (Finset.mem_univ _) h'
  · intro d _ hd
    refine Finset.sum_eq_zero fun t _ => ?_
    rw [if_neg (c := _ = (t, _)) fun h' => hd (congrArg Prod.snd (Sum.inr.inj (congrArg Prod.snd h'))).symm, ite_self]
  · intro h'; exact absurd (Finset.mem_univ _) h'
/-- A cell that nobody's debt names is owed nothing. -/
theorem sum_none {q : Dev nD × CK} {k : Dev nD → Dev nD → Dev nD × CK} {n : ℕ} (h : ∀ d t, q ≠ k d t) :
    (∑ d : Dev nD, ∑ t : Dev nD, if d = t then 0 else if q = k d t then n else 0) = 0 :=
  Finset.sum_eq_zero fun d _ => Finset.sum_eq_zero fun t _ => by rw [if_neg (h d t), ite_self]
/-- Seven devices owe a barrier. -/
theorem sum_bar (c : Dev nD) : (∑ d : Dev nD, ∑ t : Dev nD, if d = t then 0 else if ((c, .inl ()) : Dev nD × CK) = (t, .inl ()) then 1 else 0) = 7 := by
  revert c; decide

/-- What is owed to a cell at the start, from the sum over the devices. -/
theorem launch_at (q : Dev nD × CK) (n : ℕ) (h : (∑ d : Dev nD, O₀ d (kcell q) ()) = n) :
    tallyOn (kcell q) (launchCredit (Pipeline.owing O₀) 0 (kcell q)) = (tallyAt (kcell q) () n : CellTallies nD τ sig Unit) := by
  unfold tallyAt; refine congrArg _ (Finsupp.ext fun u => ?_); cases u
  rw [Pipeline.launchCredit_owing, Finsupp.single_eq_same, h]
/-- A barrier is owed seven. -/
theorem launch_bar (c : Dev nD) : (∑ d : Dev nD, O₀ d (kcell (c, .inl ())) ()) = 7 := by
  rw [Finset.sum_congr rfl fun d _ => O₀_cell d _, Finset.sum_add_distrib, Finset.sum_add_distrib, sum_none (fun d t h => by cases h), sum_none (fun d t h => by cases h), sum_bar]
/-- A scatter's landing is owed one transfer. -/
theorem launch_rs (c t : Dev nD) (h : c ≠ t) : (∑ d : Dev nD, O₀ d (kcell (c, .inr (1, t))) ()) = N := by
  rw [Finset.sum_congr rfl fun d _ => O₀_cell d _, Finset.sum_add_distrib, Finset.sum_add_distrib, sum_none (fun d t h => by cases h), sum_one 1 c t h, sum_none (fun d t h => by cases h),
    Nat.zero_add, Nat.add_zero]
/-- A gather's landing is owed one transfer. -/
theorem launch_ag (c t : Dev nD) (h : c ≠ t) : (∑ d : Dev nD, O₀ d (kcell (c, .inr (3, t))) ()) = N := by
  rw [Finset.sum_congr rfl fun d _ => O₀_cell d _, Finset.sum_add_distrib, Finset.sum_add_distrib, sum_one 3 c t h, sum_none (fun d t h => by cases h), sum_none (fun d t h => by cases h),
    Nat.add_zero]

/-- The credits of a receive array. -/
def crX (c : Dev nD) (a : Fin 4) : sProp 𝕄 := bigSep Finset.univ fun t : Dev nD => if c = t then iprop(emp) else cred (tallyAt (dCell c a t) () N)
/-- A device's credits on one array of cells. -/
theorem crX_intro (c : Dev nD) (a : Fin 4) (h : ∀ t, c ≠ t → (∑ d : Dev nD, O₀ d (kcell (c, .inr (a, t))) ()) = N) :
    (bigSep Finset.univ fun t : Dev nD => cred (tallyOn (kcell (c, .inr (a, t))) (launchCredit (Pipeline.owing O₀) 0 (kcell (c, .inr (a, t)))))) ⊢ (crX c a : sProp 𝕄) := by
  unfold crX
  refine bigSep_mono fun t _ => ?_
  by_cases hc : c = t
  · rw [if_pos hc]; show @BIBase.Entails (sProp 𝕄) _ _ _; iintro -; iempintro
  · rw [if_neg hc]; exact Entails.of_eq (congrArg cred (launch_at (c, .inr (a, t)) N (h t hc)))
/-- The credits a device starts with. -/
theorem creds (c : Dev nD) : (Pipeline.launchCred O₀ c : sProp 𝕄) ⊢ iprop(cred (tallyAt (barCell c) () 7) ∗ crX c 1 ∗ crX c 3) := by
  unfold Pipeline.launchCred
  refine (bigSep_subset (Finset.subset_univ (Finset.univ.map ⟨csem, csem_injective⟩))).trans ?_
  rw [bigSep_map, bigSep_ck]
  show @BIBase.Entails (sProp 𝕄) _ _ _
  iintro ⟨Hb, -, H1, -, H3⟩
  isplitl [Hb]
  · iapply (Entails.of_eq (congrArg cred (launch_at (c, .inl ()) 7 (launch_bar c)))); iexact Hb
  isplitl [H1]
  · iapply (crX_intro (F := F) c 1 (launch_rs c)); iexact H1
  · iapply (crX_intro (F := F) c 3 (launch_ag c)); iexact H3

end Cert.KProof
end
-- ==== Proof.Launch.lean ====
/-
  The whole run: from any memory with zero counters, every device's output array ends with the same contents, the arguments keep theirs, and
  every counter is at zero again.
-/
module

public import proofs.«01_k».proof.Proof.Alloc
public import proofs.«01_k».proof.Proof.Gen.KernelIdeal.Frame
public import Idealize.ShloMosaic.Lib.Rounds.Family
public import Idealize.ShloMosaic.Lib.Pipeline.CollectiveSegs

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-! ## The pipeline's data -/

/-- The launch has one grid point. -/
theorem cfg0_N : cfg0.N = 1 := by decide
def t₀ : Fin cfg0.N := ⟨0, by rw [cfg0_N]; decide⟩
/-- Every grid point is that one. -/
theorem fin_N (t : Fin cfg0.N) : t = t₀ := by
  obtain ⟨t, ht⟩ := t; have := cfg0_N; exact Fin.ext (by simp only [t₀]; omega)

/-- The arguments, as the launch's memory holds them. -/
def ins : Ins F where
  X c := iblk m c 0 t₀
  Wq c := iblk m c 1 t₀
  Wo c := iblk m c 2 t₀
  Wk c := iblk m c 3 t₀
  Wv c := iblk m c 4 t₀

/-- A device's scratch buffers, whatever they hold. -/
def scr (c : Dev nD) : sProp 𝕄 :=
  iprop((anyW c wqS ∗ anyW c wkS ∗ anyW c wvS ∗ anyW c woS) ∗ (anyB c qS ∗ anyB c kS ∗ anyB c vS ∗ anyB c atS) ∗ redAny c
    ∗ (∃ f, stM.view.loc (c : Thread nD τ) ↦{fullShare} f) ∗ (∃ f, rsM.view.loc (c : Thread nD τ) ↦{fullShare} f))
/-- What a device's body starts from besides its buffers. -/
def start (c : Dev nD) : sProp 𝕄 := iprop((∃ K, ctx (ins m) K ∗ lin c) ∗ cred (tallyAt (barCell c) () 7) ∗ crX c 1 ∗ crX c 3)
def Φ₀ (c : Dev nD) : sProp 𝕄 := iprop(start m c ∗ scr c)
def Φ₁ (c : Dev nD) : sProp 𝕄 := iprop((bigSep Finset.univ fun k : CK => semVal (kcell (c, k)) 0) ∗ scr c)

def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outC (ins m)
  Φ t := match t with
    | ⟨0, _⟩ => Φ₀ m c
    | ⟨_ + 1, _⟩ => Φ₁ c
  q _ := fullShare
  owed t := match t with
    | ⟨0, _⟩ => O₀ c
    | ⟨_ + 1, _⟩ => 0

/-- When the body starts, the first window's staging buffer holds the window's block. -/
theorem before_0 (c : Dev nD) (t : Fin cfg0.N) (d) : (dats m 0 c).before 0 t d = iblk m c 0 t :=
  (dats m 0 c).before_in_eq_fetched 0 rfl (fun _ => rfl) (fun _ _ _ => rfl) (fun _ => rfl) t d
/-- The same of the second window. -/
theorem before_1 (c : Dev nD) (t : Fin cfg0.N) (d) : (dats m 0 c).before 1 t d = iblk m c 1 t :=
  (dats m 0 c).before_in_eq_fetched 1 rfl (fun _ => rfl) (fun _ _ _ => rfl) (fun _ => rfl) t d
/-- The same of the third window. -/
theorem before_2 (c : Dev nD) (t : Fin cfg0.N) (d) : (dats m 0 c).before 2 t d = iblk m c 2 t :=
  (dats m 0 c).before_in_eq_fetched 2 rfl (fun _ => rfl) (fun _ _ _ => rfl) (fun _ => rfl) t d
/-- The same of the fourth window. -/
theorem before_3 (c : Dev nD) (t : Fin cfg0.N) (d) : (dats m 0 c).before 3 t d = iblk m c 3 t :=
  (dats m 0 c).before_in_eq_fetched 3 rfl (fun _ => rfl) (fun _ _ _ => rfl) (fun _ => rfl) t d
/-- The same of the fifth window. -/
theorem before_4 (c : Dev nD) (t : Fin cfg0.N) (d) : (dats m 0 c).before 4 t d = iblk m c 4 t :=
  (dats m 0 c).before_in_eq_fetched 4 rfl (fun _ => rfl) (fun _ _ _ => rfl) (fun _ => rfl) t d

/-- Owning a whole buffer with known contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body's obligation -/

/-- The round a device is at on each of its cells once it is done. -/
def rEnd (c : Dev nD) : CK → ℕ
  | .inl _ => 1
  | .inr (_, t) => pos c t
/-- No duty is left on a device's cells at the rounds it ends at. -/
theorem rEnd_done (I : Ins F) (c : Dev nD) (k : CK) (r : ℕ) (h : rEnd c k ≤ r) : (Rd I).duties (kcell (c, k)) r = ∅ := by
  rcases k with _ | ⟨a, t⟩
  · exact duties_later I _ r h
  · by_cases hc : c = t
    · subst hc; exact duties_x_self I c a r
    · have h1 : pos c t ≤ r := h
      rw [pos, if_neg hc] at h1
      exact duties_later I _ r h1

/-- The cells close: their counters are at zero. -/
theorem close (I : Ins F) (K : Dev nD × CK → ℕ) (c : Dev nD) :
    iprop(invs I K ∗ barD c ∗ atE c 0 ∗ atE c 1 ∗ atE c 2 ∗ atE c 3) ⊢ (|={Set.univ}=> bigSep Finset.univ fun k : CK => semVal (kcell (c, k)) 0 : sProp 𝕄) := by
  have h1 : invs I K ⊢ (bigSep Finset.univ fun k : CK => cellInv ER (Rd I) (K (c, k)) (kcell (c, k)) : sProp 𝕄) := by
    unfold invs
    rw [bigSep_univ_prod]
    exact bigSep_elim (Finset.mem_univ c)
  have h2 : iprop(barD c ∗ atE c 0 ∗ atE c 1 ∗ atE c 2 ∗ atE c 3) ⊢ (bigSep Finset.univ fun k : CK => atPos ER (kcell (c, k)) (rEnd c k) ∅ 0 : sProp 𝕄) := by
    rw [bigSep_ck]; exact BIBase.Entails.rfl
  have h3 := Rounds.cells_close ER (Rd I) Finset.univ (fun k : CK => kcell (c, k)) (fun k => K (c, k)) (Es := Set.univ) (fun _ _ => Set.mem_univ _) (fun _ _ h => h)
    (rEnd c) (fun k _ r h => rEnd_done I c k r h)
  rw [bigSep_sep'] at h3
  exact BIBase.Entails.trans (BIClass.sep_mono h1 h2) h3

/-- The body's start, from what the launch deals and the buffers. -/
theorem body_pre (I : Ins F) (c : Dev nD) :
    iprop(lin c ∗ (cred (tallyAt (barCell c) () 7) ∗ crX c 1 ∗ crX c 3) ∗ scr c ∗ ow c (O₀ c) ∗ (xM.view.loc (c : Thread nD τ) ↦{fullShare} I.X c) ∗ Ar I c
      ∗ ∃ f, outM.view.loc (c : Thread nD τ) ↦{fullShare} f) ⊢ bodyIn I c := by
  unfold lin toks scr bodyIn barSt barW C0 rest0 ats crB atB stAll
  rw [St_zero, bigSep_ck]
  have hb : iprop((bigSep Finset.univ fun t : Dev nD => dutyTok ER (barCell t) 0 c) ∗ (bigSep Finset.univ fun t : Dev nD => rsAny (F := F) c t) ∗ bigSep Finset.univ fun t : Dev nD => outAny (F := F) c t)
      ⊢ (bigSep Finset.univ (barPre (F := F) c) : sProp 𝕄) := by
    unfold barPre
    rw [bigSep_sep', bigSep_sep']
  have hc (a : Fin 4) : iprop((bigSep Finset.univ fun t : Dev nD => atPos ER (kcell (c, .inr (a, t))) 0 ∅ 0) ∗ crX c a)
      ⊢ (bigSep Finset.univ fun t : Dev nD => iprop(atPos ER (dCell c a t) 0 ∅ 0 ∗ (if c = t then iprop(emp) else cred (tallyAt (dCell c a t) () N))) : sProp 𝕄) := by
    unfold crX; rw [bigSep_sep']
  iintro ⟨⟨⟨Hab, Ha0, Ha1, Ha2, Ha3⟩, Htb, Htr, Htg⟩, ⟨Hc, Hc1, Hc3⟩, ⟨Hw, Hs, Hred, Hst, Hrs⟩, HO, Hx, HA, Hout⟩
  ihave Hrs := (rs_give c) $$ Hrs
  ihave Hout := (out_give c) $$ Hout
  ihave Hst := (st_give c) $$ Hst
  isplitl [HO Htb Hrs Hout Hc Hab]
  · isplitl [HO Htb Hrs Hout]
    · isplitl [HO]; · iexact HO
      iapply hb
      isplitl [Htb]; · iexact Htb
      isplitl [Hrs] <;> iassumption
    · isplitl [Hc] <;> iassumption
  isplitl [Hx HA Hw Hs]
  · isplitl [Hx]; · iexact Hx
    isplitl [HA]; · iexact HA
    isplitl [Hw] <;> iassumption
  isplitl [Hred]; · iexact Hred
  isplitl [Hst]; · iexact Hst
  isplitl [Htr]; · iexact Htr
  isplitl [Htg]; · iexact Htg
  isplitl [Ha0]; · iexact Ha0
  isplitl [Ha1 Hc1]
  · iapply (hc 1)
    isplitl [Ha1] <;> iassumption
  isplitl [Ha3 Hc3]
  · iapply (hc 3)
    isplitl [Ha3] <;> iassumption
  iexact Ha2

/-- The scratch buffers after the body. -/
theorem scr_post (I : Ins F) (c : Dev nD) :
    iprop(CE I c 3 ∗ stAll c ∗ (redM.view.loc (c : Thread nD τ) ↦{fullShare} redV I c) ∗ (rsM.view.loc (c : Thread nD τ) ↦{fullShare} rsC I c))
      ⊢ (iprop((xM.view.loc (c : Thread nD τ) ↦{fullShare} I.X c) ∗ scr c) : sProp 𝕄) := by
  unfold CE Wt scr stAll redAny anyW
  iintro ⟨⟨⟨Hx, Hwq, Hwk, Hwv, Hwo⟩, Hq, Hk, Hv, Ha⟩, Hst, Hred, Hrs⟩
  ihave Hst := (st_take c) $$ Hst
  isplitl [Hx]; · iexact Hx
  isplitl [Hwq Hwk Hwv Hwo]
  · isplitl [Hwq]; · iexists _; iexact Hwq
    isplitl [Hwk]; · iexists _; iexact Hwk
    isplitl [Hwv]; · iexists _; iexact Hwv
    iexists _; iexact Hwo
  isplitl [Hq Hk Hv Ha]
  · isplitl [Hq]; · iexact Hq
    isplitl [Hk]; · iexact Hk
    isplitl [Hv]; · iexact Hv
    unfold anyB; iexists _; iexact Ha
  isplitl [Hred]; · iexists _; iexact Hred
  isplitl [Hst]; · iexact Hst
  iexists _; iexact Hrs

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 6) t₀ d))
    ∗ (∃ d, stg c cc0_stg1_0 ((dats m 0 c).before (1 : Fin 6) t₀ d))
    ∗ (∃ d, stg c cc0_stg2_0 ((dats m 0 c).before (2 : Fin 6) t₀ d))
    ∗ (∃ d, stg c cc0_stg3_0 ((dats m 0 c).before (3 : Fin 6) t₀ d))
    ∗ (∃ d, stg c cc0_stg4_0 ((dats m 0 c).before (4 : Fin 6) t₀ d))
    ∗ (∃ d, stg c cc0_stg5_0 ((dats m 0 c).before (5 : Fin 6) t₀ d)))
def bodyPost (c : Dev nD) : sProp 𝕄 :=
  iprop(Φ₁ c ∗ (dats m 0 c).owesAt () t₀.succ ∗ stg c cc0_stg0_0 ((ins m).X c) ∗ stg c cc0_stg1_0 ((ins m).Wq c) ∗ stg c cc0_stg2_0 ((ins m).Wo c)
    ∗ stg c cc0_stg3_0 ((ins m).Wk c) ∗ stg c cc0_stg4_0 ((ins m).Wv c) ∗ stg c cc0_stg5_0 (outC (ins m)))

/-- A buffer with known contents, as the pipeline holds it. -/
theorem stg_intro (c : Dev nD) (b : Ref sig .tc) (X : b.ty.Contents (Elt F)) : (((c : Thread nD τ).loc b) ↦{fullShare} X : sProp 𝕄) ⊢ stg c b X := by
  iintro H; iexists X; isplitr
  · ipureintro; rfl
  · iexact H

/-- What the body ends with is what the pipeline expects, once the cells close. -/
theorem body_post (K : Dev nD × CK → ℕ) (c : Dev nD) : iprop(ctx (ins m) K ∗ bodyOut (ins m) c) ⊢ (|={Set.univ}=> bodyPost m c : sProp 𝕄) := by
  unfold bodyOut bodyPost ctx ow Ar Φ₁
  iintro ⟨⟨#HI, -, -⟩, ⟨⟨%W, HO⟩, H2, H3, Hout⟩, ⟨Hwq, Hwo, Hwk, Hwv⟩, HC, Hb, H0, H1, Hst, Hred, Hrs⟩
  imod (close (ins m) K c) $$ [HI H2 H3 Hb H0 H1] with Hz
  · isplitr; · iexact HI
    isplitl [Hb]; · iexact Hb
    isplitl [H0]; · iexact H0
    isplitl [H1]; · iexact H1
    isplitl [H2] <;> iassumption
  imodintro
  ihave Hs := (scr_post (ins m) c) $$ [HC Hst Hred Hrs]
  · isplitl [HC]; · iexact HC
    isplitl [Hst]; · iexact Hst
    isplitl [Hred] <;> iassumption
  icases Hs with ⟨Hx, Hs⟩
  isplitl [Hz Hs]
  · isplitl [Hz] <;> iassumption
  isplitl [HO]
  · unfold Dat.owesAt Pipeline.owesWithin
    iexists W
    isplitr; · ipureintro; exact fun _ _ => Or.inl trivial
    iexact HO
  isplitl [Hx]; · iapply (stg_intro (F := F) c cc0_stg0_0 _); iexact Hx
  isplitl [Hwq]; · iapply (stg_intro (F := F) c cc0_stg1_0 _); iexact Hwq
  isplitl [Hwo]; · iapply (stg_intro (F := F) c cc0_stg2_0 _); iexact Hwo
  isplitl [Hwk]; · iapply (stg_intro (F := F) c cc0_stg3_0 _); iexact Hwk
  isplitl [Hwv]; · iapply (stg_intro (F := F) c cc0_stg4_0 _); iexact Hwv
  iapply (stg_intro (F := F) c cc0_stg5_0 _); iexact Hout

/-- The body, from what the pipeline gives to what it expects. -/
theorem sound_body (c : Dev nD) : bodyPre m c ⊢ Go (F := F) c (cc0_body (F := F) xM (isW _) wqM (isW _) woM (isW _) wkM (isW _) wvM (isW _) outM (isW _)
      wqS (isW _) wkS (isW _) wvS (isW _) woS (isW _) qS (isW _) kS (isW _) vS (isW _) atS (isW _) redM (isW _) stM (isW _) rsM (isW _)
      cc0_scratch11 cc0_scratch12 cc0_scratch13 cc0_scratch14) (fun _ => iprop(|={Set.univ}=> bodyPost m c)) := by
  unfold bodyPre Φ₀ start
  iintro ⟨⟨⟨⟨%K, ⟨#Hctx, Hl⟩⟩, Hc⟩, Hs⟩, Ho, ⟨%d0, %g0, %h0, Hx⟩, ⟨%d1, %g1, %h1, Hwq⟩, ⟨%d2, %g2, %h2, Hwo⟩, ⟨%d3, %g3, %h3, Hwk⟩, ⟨%d4, %g4, %h4, Hwv⟩, ⟨%d5, %g5, %h5, Hout⟩⟩
  rw [before_0] at h0
  rw [before_1] at h1
  rw [before_2] at h2
  rw [before_3] at h3
  rw [before_4] at h4
  subst h0 h1 h2 h3 h4
  unfold Dat.owesAt Pipeline.owesWithin
  icases Ho with ⟨%W, %hW, HO⟩
  iapply (body (ins m) K c fun _ => iprop(|={Set.univ}=> bodyPost m c))
  isplitr; · iexact Hctx
  isplitl
  · iapply (body_pre (ins m) c)
    isplitl [Hl]; · iexact Hl
    isplitl [Hc]; · iexact Hc
    isplitl [Hs]; · iexact Hs
    isplitl [HO]; · unfold ow; iexists W; iexact HO
    isplitl [Hx]; · iexact Hx
    isplitl [Hwq Hwo Hwk Hwv]
    · unfold Ar
      isplitl [Hwq]; · iexact Hwq
      isplitl [Hwo]; · iexact Hwo
      isplitl [Hwk]; · iexact Hwk
      iexact Hwv
    · iexists g5; iexact Hout
  · iintro H
    iapply (body_post m K c)
    isplitr; · iexact Hctx
    iexact H

/-- A conjunction over the six windows, written out. -/
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 4000 in
/-- The pipeline's obligation for the body. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre m c ⊢ WP (F := F) c (cc0_body (F := F) xM (isW _) wqM (isW _) woM (isW _) wkM (isW _) wvM (isW _) outM (isW _)
      wqS (isW _) wkS (isW _) wvS (isW _) woS (isW _) qS (isW _) kS (isW _) vS (isW _) atS (isW _) redM (isW _) stM (isW _) rsM (isW _)
      cc0_scratch11 cc0_scratch12 cc0_scratch13 cc0_scratch14) (fun _ => bodyPost m c)
  have h := sound_body m c
  unfold Go at h
  exact h.trans (wp_fupd _ _ _ _ _)

/-! ## The launch -/

/-- The scoped semaphores are distinct. -/
theorem osem_injective : Function.Injective osem := fun p q h => by
  have h' : (Sum.inr p : CK) = Sum.inr q := csem_injective h
  exact Sum.inr.inj h'
/-- The kernel's scoped semaphores are the four arrays, apart from the pipeline's own. -/
theorem ownSemFacts : Pipeline.OwnSemFacts cfg0.spec osem where
  isScoped := by decide +kernel
  inj := osem_injective
  disj := by decide +kernel

/-- The body holds every window's array whole. -/
theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf xCells xToks)

/-- What the launch deals a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(start m c ∗ emp) := by
  unfold start G' ctx
  iintro ⟨-, Hlev, Hcr, -, ⟨%K, ⟨HI, HR⟩, Hl⟩⟩
  ihave Hc := (creds (F := F) c) $$ Hcr
  imodintro
  isplitl
  · isplitl [HI HR Hlev Hl]
    · iexists K
      isplitl [HI HR Hlev]
      · isplitl [HI]; · iexact HI
        isplitl [HR] <;> iassumption
      · iexact Hl
    · iexact Hc
  · iempintro

/-- The scratch buffers as the launch scopes them are those the body takes. -/
theorem scr_eq (c : Dev nD) : (Pipeline.scopedRest (Ix := Unit) (Name := ℕ) (U := UU) (Lvl := ℕ) (Val := Elt F) spec0 c : sProp 𝕄) ⊢ scr c := by
  rw [scopedRest0_eq]
  unfold scr anyW anyB redAny
  iintro ⟨H0, H1, H2, H3, H4, H5, H6, H7, H8, H9, H10⟩
  isplitl [H0 H1 H2 H3]
  · isplitl [H0]; · iexact H0
    isplitl [H1]; · iexact H1
    isplitl [H2]; · iexact H2
    iexact H3
  isplitl [H4 H5 H6 H7]
  · isplitl [H4]; · iexact H4
    isplitl [H5]; · iexact H5
    isplitl [H6]; · iexact H6
    iexact H7
  isplitl [H8]; · iexact H8
  isplitl [H9]; · iexact H9
  iexact H10
/-- The scratch buffers are given back as the launch scoped them. -/
theorem scr_back (c : Dev nD) : scr c ⊢ (Pipeline.scopedRest (Ix := Unit) (Name := ℕ) (U := UU) (Lvl := ℕ) (Val := Elt F) spec0 c : sProp 𝕄) := by
  rw [scopedRest0_eq]
  unfold scr anyW anyB redAny
  iintro ⟨⟨H0, H1, H2, H3⟩, ⟨H4, H5, H6, H7⟩, H8, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body's start, from the launch's resources and the scratch. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scr_eq (F := F) c); iexact Hr
/-- The body's end gives back the semaphores at zero and the scratch. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  unfold Φ₁
  rw [sems_eq]
  iintro ⟨⟨H1, H2⟩, Hr⟩
  isplitl [H1]; · iexact H1
  isplitl [H2]; · iexact H2
  iapply (scr_back (F := F) c); iexact Hr

/-- The pipeline's own semaphores are at level zero. -/
theorem stage_lv : ∀ (w : Fin 6) (s : Fin ((cfgs 0).win w).nbuf), lvOf (code (.dma (((cfgs 0).win w).sem s))) ≤ 0 := by decide +kernel
/-- The levels let the pipeline make its own waits, whatever the body owes at the time. -/
theorem waits (c : Dev nD) : (levAts L lv : sProp 𝕄) ⊢ Pipeline.cellsWaits cfgs (dats m) () 0 c :=
  Pipeline.cellsWaits_intro cfgs (dats m) () 0 c fun w s t =>
    mayWait_above c _ _ 0 (stage_lv w s) (by
      rcases t with ⟨_ | _, ht⟩
      · exact above_O₀ c
      · exact Above.zero 0)

/-- What device `c`'s array of window `w` ends with. -/
def finalA (c : Dev nD) (w : Fin cfg0.W) : Buf (Elt F) ((cfg0.win w).arr.view.loc (c : Thread nD τ)) := (dats m 0 c).arrAt w cfg0.N
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters every weakly fair execution on the eight devices ends, with each array at its final contents and every
    counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (ins m)) (G' := G' (ins m)) (u₀ := u₀)
    (hu₀ := by
      unfold u₀
      iintro Hu
      ihave H := (ownU_pair _ _) $$ Hu
      icases H with ⟨HP, HX⟩
      imod (fund_x (ins m)) $$ HX with HG
      imodintro
      isplitl [HP] <;> iassumption)
    (hglob := glob (ins m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- The windows over the arguments only read them: where the arrays hold what the run leaves, the arguments hold what they held. -/
theorem args_kept (r : PUnit × MemSt nD τ sig (Elt F)) (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c 0).trans ((dats m 0 c).arrAt_in 0 rfl _), (h c 1).trans ((dats m 0 c).arrAt_in 1 rfl _), (h c 2).trans ((dats m 0 c).arrAt_in 2 rfl _),
    (h c 3).trans ((dats m 0 c).arrAt_in 3 rfl _), (h c 4).trans ((dats m 0 c).arrAt_in 4 rfl _)⟩

/-- The run ends with the arguments as they were and every counter at zero. -/
theorem run_frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨args_kept m r h.1, h.2⟩) (run_main m ρ)

end Cert.KProof
end
-- ==== Proof.Final.lean ====
/-
  What the output array holds after the run, from the arguments in memory.
-/
module

public import proofs.«01_k».proof.Proof.Launch

@[expose] public section

noncomputable section

namespace Cert.KProof

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]
variable (m : (ℓ : Loc nD τ sig) → Buf (Elt F) ℓ)

/-- The output window's only block is the whole array: after the run it holds the output. -/
theorem finalA_out (c : Dev nD) : finalA m c 5 = outC (ins m) := by
  have ho : ((cfg0.win (5 : Fin 6)).blk t₀).view.read (Elt F) ((dats m 0 c).arrAt (5 : Fin 6) cfg0.N) = (dats m 0 c).flushed (5 : Fin 6) t₀ := by
    rw [show cfg0.N = (t₀ : Fin cfg0.N).val + 1 from rfl, (dats m 0 c).arrAt_succ (5 : Fin 6) t₀]
    rw [show (cfg0.win (5 : Fin 6)).flush t₀ = true from by decide, if_pos rfl]
    exact View.read_write_univ _ _
  have hz : (fun a => (win0_5.index t₀) a * main_v1.ty.shape.size a) = fun _ => 0 := funext fun a => by fin_cases a <;> decide
  have hr := fun f => Memref.read_access_unit_zero (Elt F) main_v1 hz (fun a => by fin_cases a <;> decide) f
  rw [hr] at ho
  exact ho

/-- The windows' only blocks are the whole arguments. -/
theorem ins_X (c : Dev nD) : (ins m).X c = m ((c : Thread nD τ).loc main_arg0) := by
  have hz : (fun a => (win0_0.index t₀) a * main_arg0.ty.shape.size a) = fun _ => 0 := funext fun a => by fin_cases a <;> decide
  exact Memref.read_access_unit_zero (Elt F) main_arg0 hz (fun a => by fin_cases a <;> decide) (m ((c : Thread nD τ).loc main_arg0))
/-- The query weight is the second argument. -/
theorem ins_Wq (c : Dev nD) : (ins m).Wq c = m ((c : Thread nD τ).loc main_arg1) := by
  have hz : (fun a => (win0_1.index t₀) a * main_arg1.ty.shape.size a) = fun _ => 0 := funext fun a => by fin_cases a <;> decide
  exact Memref.read_access_unit_zero (Elt F) main_arg1 hz (fun a => by fin_cases a <;> decide) (m ((c : Thread nD τ).loc main_arg1))
/-- The output weight is the third argument. -/
theorem ins_Wo (c : Dev nD) : (ins m).Wo c = m ((c : Thread nD τ).loc main_arg2) := by
  have hz : (fun a => (win0_2.index t₀) a * main_arg2.ty.shape.size a) = fun _ => 0 := funext fun a => by fin_cases a <;> decide
  exact Memref.read_access_unit_zero (Elt F) main_arg2 hz (fun a => by fin_cases a <;> decide) (m ((c : Thread nD τ).loc main_arg2))
/-- The key weight is the fourth argument. -/
theorem ins_Wk (c : Dev nD) : (ins m).Wk c = m ((c : Thread nD τ).loc main_arg3) := by
  have hz : (fun a => (win0_3.index t₀) a * main_arg3.ty.shape.size a) = fun _ => 0 := funext fun a => by fin_cases a <;> decide
  exact Memref.read_access_unit_zero (Elt F) main_arg3 hz (fun a => by fin_cases a <;> decide) (m ((c : Thread nD τ).loc main_arg3))
/-- The value weight is the fifth argument. -/
theorem ins_Wv (c : Dev nD) : (ins m).Wv c = m ((c : Thread nD τ).loc main_arg4) := by
  have hz : (fun a => (win0_4.index t₀) a * main_arg4.ty.shape.size a) = fun _ => 0 := funext fun a => by fin_cases a <;> decide
  exact Memref.read_access_unit_zero (Elt F) main_arg4 hz (fun a => by fin_cases a <;> decide) (m ((c : Thread nD τ).loc main_arg4))

end Cert.KProof
end
-- ==== Proof.Softmax.lean ====
/-
  The mathematics of one row of attention over the extended reals: dividing every weight before the weighted sum is the same as dividing the
  sum, when the scores are numbers. The values that are summed may be anything.
-/
module

public import Idealize.ShloMosaic.PureOps.Ideal.Laws

@[expose] public section

noncomputable section

namespace Cert.Attn

open Idealize.ShloMosaic

variable {n : ℕ}

/-- A number that is not negative distributes over any sum of extended reals. -/
theorem mul_sum_of_nonneg {ι : Type} (t : Finset ι) (f : ι → EReal) (c : ℝ) (hc : 0 ≤ c) :
    (c : EReal) * ∑ j ∈ t, f j = ∑ j ∈ t, (c : EReal) * f j := by
  classical
  induction t using Finset.induction_on with
  | empty => simp
  | insert a t ha ih =>
    rw [Finset.sum_insert ha, Finset.sum_insert ha,
      EReal.left_distrib_of_nonneg_of_ne_top (EReal.coe_nonneg.2 hc) (EReal.coe_ne_top c), ih]

/-- A sum of numbers is a number. -/
theorem sum_coe {ι : Type} (t : Finset ι) (f : ι → ℝ) : ∑ j ∈ t, ((f j : ℝ) : EReal) = ((∑ j ∈ t, f j : ℝ) : EReal) := by
  classical
  induction t using Finset.induction_on with
  | empty => simp
  | insert a t ha ih => rw [Finset.sum_insert ha, Finset.sum_insert ha, ih, EReal.coe_add]

/-- A sum of products of numbers is a number. -/
theorem sum_mul_real {ι : Type} [Fintype ι] (f g : ι → EReal) (hf : ∀ j, ∃ r : ℝ, f j = r) (hg : ∀ j, ∃ r : ℝ, g j = r) :
    ∃ r : ℝ, ∑ j, f j * g j = r := by
  choose a ha using hf
  choose b hb using hg
  refine ⟨∑ j, a j * b j, ?_⟩
  rw [← sum_coe]
  exact Finset.sum_congr rfl fun j _ => by rw [ha, hb, EReal.coe_mul]

/-- The greatest of a row of scores. -/
def rowMax (s : Fin n → EReal) : EReal := Finset.univ.fold max ⊥ s
/-- The weight of position `j`. -/
def weight (s : Fin n → EReal) (j : Fin n) : EReal := Ideal.exp (s j - rowMax s)
/-- The sum of the weights. -/
def total (s : Fin n → EReal) : EReal := ∑ j, weight s j

/-- The greatest of a row of numbers is a number. -/
theorem rowMax_real (hn : 0 < n) (s : Fin n → EReal) (hs : ∀ j, ∃ r : ℝ, s j = r) : ∃ r : ℝ, rowMax s = r := by
  have h1 : rowMax s < ⊤ := Finset.fold_max_lt _ |>.2 ⟨bot_lt_top, fun j _ => by obtain ⟨r, h⟩ := hs j; rw [h]; exact EReal.coe_lt_top r⟩
  have h2 : ⊥ < rowMax s := Finset.lt_fold_max _ |>.2 (.inr ⟨⟨0, hn⟩, Finset.mem_univ _, by obtain ⟨r, h⟩ := hs ⟨0, hn⟩; rw [h]; exact EReal.bot_lt_coe r⟩)
  exact ⟨(rowMax s).toReal, (EReal.coe_toReal h1.ne h2.ne').symm⟩

/-- The weights of a row of numbers add up to a positive number. -/
theorem total_real (hn : 0 < n) (s : Fin n → EReal) (hs : ∀ j, ∃ r : ℝ, s j = r) : ∃ r : ℝ, 0 < r ∧ total s = r := by
  obtain ⟨m, hm⟩ := rowMax_real hn s hs
  choose a ha using hs
  refine ⟨∑ j, Real.exp (a j - m), Finset.sum_pos (fun j _ => Real.exp_pos _) ⟨⟨0, hn⟩, Finset.mem_univ _⟩, ?_⟩
  rw [← sum_coe]
  refine Finset.sum_congr rfl fun j _ => ?_
  rw [weight, hm, ha, ← EReal.coe_sub, Ideal.exp_coe]

/-- Attention of one row: each weight divided by the total and then the weighted sum, or the weighted sum divided by the total. -/
theorem softmax_sum (hn : 0 < n) (s v : Fin n → EReal) (hs : ∀ j, ∃ r : ℝ, s j = r) :
    ∑ j, Ideal.div (weight s j) (total s) * v j = Ideal.div (∑ j, weight s j * v j) (total s) := by
  obtain ⟨r, hr, e⟩ := total_real hn s hs
  have h0 : (r : EReal) ≠ 0 := by exact_mod_cast hr.ne'
  rw [e, Ideal.div, if_neg h0, ← EReal.coe_inv, mul_comm, mul_sum_of_nonneg _ _ _ (inv_nonneg.2 hr.le)]
  refine Finset.sum_congr rfl fun j _ => ?_
  rw [Ideal.div, if_neg h0, ← EReal.coe_inv, mul_comm (weight s j), mul_assoc]

end Cert.Attn

end
-- ==== Proof.Heads.lean ====
/-
  One attention head over the extended reals, in the kernel's order of operations and in the
  reference's, and their equality when the queries and the keys are numbers.
-/
module

public import proofs.«01_k».proof.Proof.Softmax
public import Idealize.ShloMosaic.Lib.Pointwise

@[expose] public section

noncomputable section

namespace Cert.Attn

open Idealize.ShloMosaic

/-- The scores' scale, the constant both programs print. -/
def scale : EReal := Ideal.ofBits .f32 0x3DB504F3#32

/-- The inner product of two rows. -/
def inner {n : ℕ} (a b : Fin n → EReal) : EReal := ∑ k, a k * b k

/-- The scores of query `i` against every key. -/
def score (q k : Fin 256 → Fin 128 → EReal) (i : Fin 256) : Fin 256 → EReal :=
  fun j => inner (q i) (k j) * scale

/-- A head's result, the weights divided by their total before they meet the values. -/
def headFirst (q k v : Fin 256 → Fin 128 → EReal) (i : Fin 256) (e : Fin 128) : EReal :=
  ∑ j, Ideal.div (weight (score q k i) j) (total (score q k i)) * v j e

/-- A head's result, the weighted sum of the values divided by the weights' total. -/
def headLast (q k v : Fin 256 → Fin 128 → EReal) (i : Fin 256) (e : Fin 128) : EReal :=
  Ideal.div (∑ j, weight (score q k i) j * v j e) (total (score q k i))

/-- The inner product of two rows of numbers is a number. -/
theorem inner_real {n : ℕ} (a b : Fin n → EReal) (ha : ∀ k, ∃ r : ℝ, a k = r) (hb : ∀ k, ∃ r : ℝ, b k = r) :
    ∃ r : ℝ, inner a b = r := sum_mul_real a b ha hb

/-- The scale is a number. -/
theorem scale_real : ∃ r : ℝ, scale = r := by
  simp only [scale, Ideal.ofBits, Ideal.ieee]
  simp
  exact ⟨_, (EReal.coe_mul _ _).symm⟩

/-- The scores of numbers are numbers. -/
theorem score_real (q k : Fin 256 → Fin 128 → EReal) (hq : ∀ i e, ∃ r : ℝ, q i e = r) (hk : ∀ i e, ∃ r : ℝ, k i e = r)
    (i j : Fin 256) : ∃ r : ℝ, score q k i j = r := by
  obtain ⟨a, ha⟩ := inner_real (q i) (k j) (hq i) (hk j)
  obtain ⟨b, hb⟩ := scale_real
  exact ⟨a * b, by rw [score, ha, hb, EReal.coe_mul]⟩

/-- Dividing the weights first or the weighted sum last is the same on queries and keys that are numbers. -/
theorem headFirst_eq (q k v : Fin 256 → Fin 128 → EReal) (hq : ∀ i e, ∃ r : ℝ, q i e = r)
    (hk : ∀ i e, ∃ r : ℝ, k i e = r) : headFirst q k v = headLast q k v :=
  funext fun i => funext fun e =>
    softmax_sum (by norm_num) (score q k i) (fun j => v j e) (score_real q k hq hk i)

/-- The bits the row maximum starts from are the least extended real. -/
theorem ofBits_bot : Ideal.ofBits .f32 0xFF800000#32 = ⊥ := by
  simp [Ideal.ofBits, Ideal.ieee]

/-- The bits the precondition compares with are the greatest extended real. -/
theorem ofBits_top : Ideal.ofBits .f32 0x7F800000#32 = ⊤ := by
  simp [Ideal.ofBits, Ideal.ieee]

/-- A head's projection: row `i` of `x` against the head's column `e` of the weight. -/
def projH (x : Fin 256 → Fin 1024 → EReal) (w : Fin 128 → Fin 1024 → EReal) (i : Fin 256) (e : Fin 128) : EReal := inner (x i) (w e)

/-- One head of one batch, the weights divided first. -/
def attnFirst (x : Fin 256 → Fin 1024 → EReal) (wq wk wv : Fin 128 → Fin 1024 → EReal) : Fin 256 → Fin 128 → EReal :=
  headFirst (projH x wq) (projH x wk) (projH x wv)

/-- One head of one batch, the weighted sum divided last. -/
def attnLast (x : Fin 256 → Fin 1024 → EReal) (wq wk wv : Fin 128 → Fin 1024 → EReal) : Fin 256 → Fin 128 → EReal :=
  headLast (projH x wq) (projH x wk) (projH x wv)

/-- The two orders agree when `x` and the weights the scores come from are numbers. -/
theorem attnFirst_eq (x : Fin 256 → Fin 1024 → EReal) (wq wk wv : Fin 128 → Fin 1024 → EReal)
    (hx : ∀ i k, ∃ r : ℝ, x i k = r) (hq : ∀ e k, ∃ r : ℝ, wq e k = r) (hk : ∀ e k, ∃ r : ℝ, wk e k = r) :
    attnFirst x wq wk wv = attnLast x wq wk wv :=
  headFirst_eq _ _ _ (fun i e => inner_real _ _ (hx i) (hq e)) (fun i e => inner_real _ _ (hx i) (hk e))

end Cert.Attn
end
-- ==== Proof.Finite.lean ====
/-
  The precondition, read: every element of `x`, of the query weight and of the key weight is a number.
-/
module

public import proofs.«01_k».proof.Pre_finite_KernelIdeal
public import proofs.«01_k».proof.Pre_finite_ReferenceIdeal
public import proofs.«01_k».proof.Proof.Heads
public import Idealize.ShloMosaic.Lib.ReduceAll

@[expose] public section

noncomputable section

namespace Cert.Attn

open Idealize.ShloMosaic

/-- The precondition's side conditions at one device's shapes. -/
theorem factsKernel : Cert.Pre_finite_KernelIdeal.Facts where
  bitsLt_bf16_f32 := by decide
  bcast_S_S4x256x1024 := by decide
  reducesTo_S4x256x1024_S_d0_1_2 := by decide
  h_S_ := by decide
  bcast_S_S1024x1024 := by decide
  reducesTo_S1024x1024_S_d0_1 := by decide

/-- The precondition's side conditions at the whole arrays' shapes. -/
theorem factsReference : Cert.Pre_finite_ReferenceIdeal.Facts where
  bitsLt_bf16_f32 := by decide
  bcast_S_S4x256x1024 := by decide
  reducesTo_S4x256x1024_S_d0_1_2 := by decide
  h_S_ := by decide
  bcast_S_S1024x8192 := by decide
  reducesTo_S1024x8192_S_d0_1 := by decide

/-- A magnitude below the greatest extended real is a number's. -/
theorem real_of_abs_lt (a : EReal) (h : Ideal.cmp .olt (max a (-a)) (Ideal.ofBits .f32 0x7F800000#32) = 1#1) : ∃ r : ℝ, a = r := by
  rw [ofBits_top] at h
  induction a using EReal.rec with
  | bot => simp [Ideal.cmp] at h
  | coe r => exact ⟨r, rfl⟩
  | top => simp [Ideal.cmp] at h

open Cert.Pre_finite_KernelIdeal in
/-- Where the precondition holds, the three arrays it reads hold numbers. -/
theorem pre_real [Cert.Pre_finite_KernelIdeal.Facts] (X : FVec Ideal S4x256x1024 .bf16) (Wq Wo Wk Wv : FVec Ideal S1024x1024 .bf16)
    (h : fn (F := Ideal) X Wq Wo Wk Wv = fun _ => 1#1) :
    (∀ i, ∃ r : ℝ, (X i : EReal) = r) ∧ (∀ i, ∃ r : ℝ, (Wq i : EReal) = r) ∧ (∀ i, ∃ r : ℝ, (Wk i : EReal) = r) := by
  have hs : Subsingleton S_.Idx := ⟨fun a b => funext fun i => i.elim0⟩
  have h0 := congrFun h (fun i => i.elim0)
  obtain ⟨h1, hk⟩ := IntOp.andi_eq_one.1 h0
  obtain ⟨hx, hq⟩ := IntOp.andi_eq_one.1 h1
  exact ⟨fun i => real_of_abs_lt _ (Host.reduce_andi_all _ _ _ _ _ hx i), fun i => real_of_abs_lt _ (Host.reduce_andi_all _ _ _ _ _ hq i),
    fun i => real_of_abs_lt _ (Host.reduce_andi_all _ _ _ _ _ hk i)⟩

end Cert.Attn
end
-- ==== Proof.KernelValue.lean ====
/-
  The kernel's arithmetic over the extended reals, element by element.
-/
module

public import proofs.«01_k».proof.Proof.Contents
public import proofs.«01_k».proof.Proof.Heads

@[expose] public section

noncomputable section

namespace Cert.KProof

open Cert.KernelIdeal Cert.KernelIdeal.Gen Cert.Attn
open Idealize.ShloMosaic

/-- A projection of one batch: row `i` of `x` against column `n` of the weight. -/
theorem pay6_apply (X : Vec Ideal S4x256x1024 .bf16) (W : Vec Ideal S1024x1024 .bf16) (b : Fin 4) (i : Fin 256) (n : Fin 1024) :
    k0_pay6 (xB X b) W (ix2 i n) = inner (fun k => X (ix3 b i k)) (fun k => W (ix2 k n)) := by
  pointwise [k0_pay6, k0_pay5, xB]
  rfl

/-- Columns `128 h` to `128 h + 127` of a projection. -/
theorem colB_apply (v : Vec Ideal S256x1024 .bf16) (h : Fin 8) (i : Fin 256) (e : Fin 128) :
    colB v h (ix2 i e) = v (ix2 i ⟨128 * h.1 + e.1, by omega⟩) := by
  pointwise [colB]

/-- One head: the softmax of the scores, normalised, against the values. -/
theorem pay10_apply (q k v : Vec Ideal S256x128 .bf16) (i : Fin 256) (e : Fin 128) :
    k0_pay10 q k v (ix2 i e)
      = headFirst (fun i e => q (ix2 i e)) (fun i e => k (ix2 i e)) (fun i e => v (ix2 i e)) i e := by
  pointwise [k0_pay10]
  simp only [ofBits_bot]
  rfl

/-- The output projection's rows for one even step. -/
theorem pay24_apply (a : Vec Ideal S256x1024 .bf16) (W : Vec Ideal S1024x1024 .bf16) (i : Fin 128) (n : Fin 1024) :
    k0_pay24 a W (ix3 0 i n) = inner (fun k => a (ix2 ⟨i, by omega⟩ k)) (fun k => W (ix2 k n)) := by
  pointwise [k0_pay24, k0_pay22, k0_pay21]
  rfl

/-- The output projection's rows for one odd step. -/
theorem pay27_apply (a : Vec Ideal S256x1024 .bf16) (W : Vec Ideal S1024x1024 .bf16) (i : Fin 128) (n : Fin 1024) :
    k0_pay27 a W (ix3 0 i n) = inner (fun k => a (ix2 ⟨128 + i, by omega⟩ k)) (fun k => W (ix2 k n)) := by
  pointwise [k0_pay27, k0_pay25, k0_pay21]
  rfl

/-- The device's own rows of an even step, kept in single precision. -/
theorem pay23_apply (a : Vec Ideal S256x1024 .bf16) (W : Vec Ideal S1024x1024 .bf16) (i : Fin 128) (n : Fin 1024) :
    k0_pay23 a W (ix2 i n) = inner (fun k => a (ix2 ⟨i, by omega⟩ k)) (fun k => W (ix2 k n)) := by
  pointwise [k0_pay23, k0_pay22, k0_pay21]
  rfl

/-- The device's own rows of an odd step, kept in single precision. -/
theorem pay26_apply (a : Vec Ideal S256x1024 .bf16) (W : Vec Ideal S1024x1024 .bf16) (i : Fin 128) (n : Fin 1024) :
    k0_pay26 a W (ix2 i n) = inner (fun k => a (ix2 ⟨128 + i, by omega⟩ k)) (fun k => W (ix2 k n)) := by
  pointwise [k0_pay26, k0_pay25, k0_pay21]
  rfl

/-- A device's own slot holds zeros when the sum is taken. -/
theorem pay98_apply (i : S1x128x1024.Idx) : k0_pay98 (F := Ideal) i = 0 := by
  pointwise [k0_pay98]

/-- The sum of a device's own rows and the eight slots. -/
theorem pay107_apply (r : Vec Ideal S128x1024 .f32) (s : Dev nD → Vec Ideal S1x128x1024 .bf16) (i : Fin 128) (n : Fin 1024) :
    k0_pay107 (k0_pay106 r (s 0) (s 1)) (s 2) (s 3) (s 4) (s 5) (s 6) (s 7) (ix2 i n)
      = r (ix2 i n) + ∑ d, s d (ix3 0 i n) := by
  pointwise [k0_pay107, k0_pay106]
  show _ = r (ix2 i n) + ∑ d : Fin 8, s d (ix3 0 i n)
  simp only [Fin.sum_univ_eight, add_assoc]

/-! ## What the device computes -/

variable (I : Ins Ideal)

/-- Head `h`'s columns of a device's weight. -/
def colsD (W : Vec Ideal S1024x1024 .bf16) (h : Fin 8) (e : Fin 128) (k : Fin 1024) : EReal := W (ix2 k ⟨128 * h.1 + e.1, by omega⟩)

/-- One batch of `x`. -/
def rowsD (X : Vec Ideal S4x256x1024 .bf16) (b : Fin 4) (i : Fin 256) (k : Fin 1024) : EReal := X (ix3 b i k)

/-- The loaded weights are the weights. -/
theorem pay1_eq (W : Vec Ideal S1024x1024 .bf16) : k0_pay1 W = W := by
  funext i; rw [eq_ix2 i]; pointwise [k0_pay1]
/-- The same of the key weight. -/
theorem pay2_eq (W : Vec Ideal S1024x1024 .bf16) : k0_pay2 W = W := by
  funext i; rw [eq_ix2 i]; pointwise [k0_pay2]
/-- The same of the value weight. -/
theorem pay3_eq (W : Vec Ideal S1024x1024 .bf16) : k0_pay3 W = W := by
  funext i; rw [eq_ix2 i]; pointwise [k0_pay3]
/-- The same of the output weight. -/
theorem pay4_eq (W : Vec Ideal S1024x1024 .bf16) : k0_pay4 W = W := by
  funext i; rw [eq_ix2 i]; pointwise [k0_pay4]

/-- The attention at a column is its head's, at the column in the head. -/
theorem attnV_apply (q k v : Vec Ideal S256x1024 .bf16) (i : Fin 256) (n : Fin 1024) :
    attnV q k v (ix2 i n) = k0_pay10 (colB q ⟨n / 128, by omega⟩) (colB k ⟨n / 128, by omega⟩) (colB v ⟨n / 128, by omega⟩)
      (ix2 i ⟨n % 128, by omega⟩) := rfl

/-- The attention of one batch on one device, at one row and column. -/
theorem attnB_apply (c : Dev nD) (b : Fin 4) (i : Fin 256) (n : Fin 1024) :
    attnB I c b (ix2 i n) = attnFirst (rowsD (I.X c) b) (colsD (I.Wq c) ⟨n / 128, by omega⟩) (colsD (I.Wk c) ⟨n / 128, by omega⟩)
      (colsD (I.Wv c) ⟨n / 128, by omega⟩) i ⟨n % 128, by omega⟩ := by
  rw [attnB, attnV_apply, pay10_apply, pay1_eq, pay2_eq, pay3_eq]
  simp only [colB_apply, pay6_apply]
  rfl

/-- Device `c`'s part of the output at row `r` and column `n`: its attention's row against its rows of the last weight. -/
def part (c : Dev nD) (r n : Fin 1024) : EReal :=
  inner (fun k => attnB I c ⟨r / 256, by omega⟩ (ix2 ⟨r % 256, by omega⟩ k)) (fun k => I.Wo c (ix2 k n))

/-- Row `i` of chunk `t`. -/
def rowOf (t : Dev nD) (i : Fin 128) : Fin 1024 := ⟨128 * t.1 + i.1, by have := t.isLt; unfold nD at this; omega⟩

/-- The part at a row, from the batch and the row in it. -/
theorem part_of (c : Dev nD) (r n : Fin 1024) (b : Fin 4) (i : Fin 256) (hb : b.1 = r.1 / 256) (hi : i.1 = r.1 % 256) :
    inner (fun k => attnB I c b (ix2 i k)) (fun k => I.Wo c (ix2 k n)) = part I c r n := by
  have h1 : b = ⟨r / 256, by omega⟩ := Fin.ext hb
  have h2 : i = ⟨r % 256, by omega⟩ := Fin.ext hi
  rw [h1, h2, part]

/-- What device `c` stages for device `t` is its part of chunk `t`. -/
theorem stgV_apply (c t : Dev nD) (i : Fin 128) (n : Fin 1024) : stgV I c t (ix3 0 i n) = part I c (rowOf t i) n := by
  have ht := t.isLt
  unfold nD at ht
  rw [stgV, pay4_eq]
  split
  · refine (pay24_apply _ _ i n).trans (part_of I c _ n _ _ ?_ ?_) <;> simp only [bat, rowOf] <;> omega
  · refine (pay27_apply _ _ i n).trans (part_of I c _ n _ _ ?_ ?_) <;> simp only [bat, rowOf] <;> omega

/-- A device's own part of its own chunk. -/
theorem redV_apply (t : Dev nD) (i : Fin 128) (n : Fin 1024) : redV I t (ix2 i n) = part I t (rowOf t i) n := by
  have ht := t.isLt
  unfold nD at ht
  rw [redV, pay4_eq]
  split
  · refine (pay23_apply _ _ i n).trans (part_of I t _ n _ _ ?_ ?_) <;> simp only [bat, rowOf] <;> omega
  · refine (pay26_apply _ _ i n).trans (part_of I t _ n _ _ ?_ ?_) <;> simp only [bat, rowOf] <;> omega

/-- Chunk `t` is the sum of every device's part of it. -/
theorem outRow_apply (t : Dev nD) (i : Fin 128) (n : Fin 1024) : outRow I t (ix2 i n) = ∑ d : Dev nD, part I d (rowOf t i) n := by
  rw [outRow, pay107_apply (redV I t) (slotV I t), redV_apply, ← Finset.add_sum_erase Finset.univ (fun d => part I d (rowOf t i) n) (Finset.mem_univ t)]
  refine congrArg (part I t (rowOf t i) n + ·) ?_
  rw [← Finset.sum_erase (a := t) Finset.univ (by rw [slotV, if_pos rfl]; exact pay98_apply _)]
  exact Finset.sum_congr rfl fun d hd => by rw [slotV, if_neg (Finset.ne_of_mem_erase hd), stgV_apply]

/-- The output at one row and column is the sum of every device's part. -/
theorem outC_apply (r n : Fin 1024) : outC I (ix2 r n) = ∑ d : Dev nD, part I d r n := by
  have h : rowOf ⟨r / 128, Nat.div_lt_of_lt_mul r.isLt⟩ ⟨r % 128, Nat.mod_lt _ (by decide)⟩ = r := Fin.ext (by simp only [rowOf]; omega)
  refine (outRow_apply I ⟨r / 128, Nat.div_lt_of_lt_mul r.isLt⟩ ⟨r % 128, Nat.mod_lt _ (by decide)⟩ n).trans ?_
  rw [h]

end Cert.KProof
end
-- ==== Proof.RefValue.lean ====
/-
  The reference's result over the extended reals, element by element: every head's attention against
  the head's rows of the last weight, all heads together.
-/
module

public import proofs.«01_k».proof.Proof.Heads
public import proofs.«01_k».proof.Proof.Gen.ReferenceIdeal.Run
public import Idealize.ShloMosaic.Lib.Tactic.CleanTypes

@[expose] public section

noncomputable section

namespace Cert.RProof

open Cert.ReferenceIdeal Cert.ReferenceIdeal.Gen Cert.Attn
open Idealize.ShloMosaic Idealize.SL.Sem

/-- Head `h`'s columns of a whole weight. -/
def colsG (W : Vec Ideal S1024x8192 .bf16) (h : Fin 64) (e : Fin 128) (k : Fin 1024) : EReal := W (ix2 k ⟨h.1 * 128 + e.1, by omega⟩)

/-- One batch of `x`. -/
def rowsG (X : Vec Ideal S4x256x1024 .bf16) (b : Fin 4) (i : Fin 256) (k : Fin 1024) : EReal := X (ix3 b i k)

/-- The attention of row `r` at column `C` of all heads. -/
def attnG (X : Vec Ideal S4x256x1024 .bf16) (Wq Wk Wv : Vec Ideal S1024x8192 .bf16) (r : Fin 1024) (C : Fin 8192) : EReal :=
  attnLast (rowsG X ⟨r / 256, by omega⟩) (colsG Wq ⟨C / 128, by omega⟩) (colsG Wk ⟨C / 128, by omega⟩) (colsG Wv ⟨C / 128, by omega⟩)
    ⟨r % 256, by omega⟩ ⟨C % 128, by omega⟩

/-- The result's element at row `r` and column `n`. -/
def outG (X : Vec Ideal S4x256x1024 .bf16) (Wq : Vec Ideal S1024x8192 .bf16) (Wo : Vec Ideal S8192x1024 .bf16)
    (Wk Wv : Vec Ideal S1024x8192 .bf16) (r n : Fin 1024) : EReal :=
  inner (attnG X Wq Wk Wv r) (fun C => Wo (ix2 C n))

/-- A column of the value weight, found again from its head and its place in the head. -/
theorem colsG_self (W : Vec Ideal S1024x8192 .bf16) (C : Fin 8192) (k : Fin 1024) :
    W (ix2 k C) = colsG W ⟨C / 128, by omega⟩ ⟨C % 128, by omega⟩ k :=
  congrArg (fun d => W (ix2 k d)) (Fin.ext (by show C.1 = C.1 / 128 * 128 + C.1 % 128; omega))

/-- The reference's composed term, read at one element. -/
theorem ref_apply (m : (ℓ : Loc nD τ sig) → Buf (Elt Ideal) ℓ) (c : Dev nD) (r n : Fin 1024) :
    (Value.res_main_v29 (F := Ideal) m c : Vec Ideal S1024x1024 .bf16) (ix2 r n)
      = outG (m (c.tc.loc main_arg0)) (m (c.tc.loc main_arg1)) (m (c.tc.loc main_arg2)) (m (c.tc.loc main_arg3)) (m (c.tc.loc main_arg4)) r n := by
  unfold Value.res_main_v29
  clean_types
  pointwise
  simp only [ofBits_bot]
  unfold outG Attn.inner
  refine Finset.sum_congr rfl fun C _ => ?_
  refine congrArg (fun z : EReal => z * (m (c.tc.loc main_arg2) : Vec Ideal S8192x1024 .bf16) (ix2 C n)) ?_
  unfold attnG attnLast headLast
  refine congrArg₂ Ideal.div (Finset.sum_congr rfl fun j _ => ?_) rfl
  refine (mul_comm _ _).trans (congrArg₂ (fun a b : EReal => a * b) rfl ?_)
  unfold projH Attn.inner
  exact Finset.sum_congr rfl fun k _ => congrArg₂ (fun a b : EReal => a * b) rfl (colsG_self _ C k)

end Cert.RProof
end
-- ==== Proof.Equation.lean ====
/-
  The kernel's output is the reference's: every device's part is the reference's sum over the device's
  own heads, and the devices' heads together are all the heads.
-/
module

public import proofs.«01_k».proof.Proof.KernelValue
public import proofs.«01_k».proof.Proof.RefValue
public import Idealize.ShloMosaic.Lib.Layout

@[expose] public section

noncomputable section

namespace Cert.Attn

open Idealize.ShloMosaic Cert.KProof Cert.RProof
open Cert.KernelIdeal (S4x256x1024 S1024x1024 nD)
open Cert.ReferenceIdeal (S1024x8192 S8192x1024)

/-- Column `k` of device `d`, among all columns. -/
def colOf (d : Dev nD) (k : Fin 1024) : Fin 8192 := ⟨1024 * d.1 + k.1, by have := d.isLt; unfold nD at this; omega⟩

/-- A device's block of columns, read at one element. -/
theorem block_cols (W : Vec Ideal S1024x8192 .bf16) (d : Dev nD) (k e : Fin 1024) :
    (Layout.block ⟨2, ![1024, 1024]⟩ ⟨2, ![1024, 8192]⟩ 1 8 d W : Vec Ideal S1024x1024 .bf16) (ix2 k e) = W (ix2 k (colOf d e)) := by
  refine congrArg W (funext fun a => Fin.ext ?_)
  match a with
  | ⟨0, _⟩ => rfl
  | ⟨1, _⟩ => show d.1 * 1024 + e.1 = 1024 * d.1 + e.1; omega

/-- A device's block of rows, read at one element. -/
theorem block_rows (W : Vec Ideal S8192x1024 .bf16) (d : Dev nD) (k n : Fin 1024) :
    (Layout.block ⟨2, ![1024, 1024]⟩ ⟨2, ![8192, 1024]⟩ 0 8 d W : Vec Ideal S1024x1024 .bf16) (ix2 k n) = W (ix2 (colOf d k) n) := by
  refine congrArg W (funext fun a => Fin.ext ?_)
  match a with
  | ⟨0, _⟩ => show d.1 * 1024 + k.1 = 1024 * d.1 + k.1; omega
  | ⟨1, _⟩ => rfl

/-- A sum over all columns is the sum over the devices of the sums over their columns. -/
theorem sum_cols (f : Fin 8192 → EReal) : ∑ C, f C = ∑ d : Dev nD, ∑ k : Fin 1024, f (colOf d k) := by
  rw [← Equiv.sum_comp (finProdFinEquiv (m := 8) (n := 1024)) f, Fintype.sum_prod_type]
  refine Finset.sum_congr rfl fun d _ => Finset.sum_congr rfl fun k _ => congrArg f (Fin.ext ?_)
  show k.1 + 1024 * d.1 = 1024 * d.1 + k.1
  omega

variable (I : Ins Ideal) (X : Vec Ideal S4x256x1024 .bf16) (Wq Wk Wv : Vec Ideal S1024x8192 .bf16) (Wo : Vec Ideal S8192x1024 .bf16)

/-- A head's columns on its device are its columns in the whole weight. -/
theorem cols_eq (d : Dev nD) (k : Fin 1024) (W : Vec Ideal S1024x8192 .bf16) (V : Vec Ideal S1024x1024 .bf16)
    (h : V = Layout.block ⟨2, ![1024, 1024]⟩ ⟨2, ![1024, 8192]⟩ 1 8 d W) :
    colsD V ⟨k / 128, by omega⟩ = colsG W ⟨(colOf d k).1 / 128, by have := (colOf d k).isLt; omega⟩ := by
  funext e j
  rw [colsD, h, block_cols, colsG]
  refine congrArg (fun C => W (ix2 j C)) (Fin.ext ?_)
  show 1024 * d.1 + (128 * (k.1 / 128) + e.1) = (1024 * d.1 + k.1) / 128 * 128 + e.1
  omega

variable (hX : ∀ c, I.X c = X)
  (hq : ∀ c, I.Wq c = Layout.block ⟨2, ![1024, 1024]⟩ ⟨2, ![1024, 8192]⟩ 1 8 c Wq)
  (ho : ∀ c, I.Wo c = Layout.block ⟨2, ![1024, 1024]⟩ ⟨2, ![8192, 1024]⟩ 0 8 c Wo)
  (hk : ∀ c, I.Wk c = Layout.block ⟨2, ![1024, 1024]⟩ ⟨2, ![1024, 8192]⟩ 1 8 c Wk)
  (hv : ∀ c, I.Wv c = Layout.block ⟨2, ![1024, 1024]⟩ ⟨2, ![1024, 8192]⟩ 1 8 c Wv)
  (rX : ∀ c i, ∃ r : ℝ, (I.X c i : EReal) = r) (rq : ∀ c i, ∃ r : ℝ, (I.Wq c i : EReal) = r) (rk : ∀ c i, ∃ r : ℝ, (I.Wk c i : EReal) = r)

include hX hq hk hv rX rq rk in
/-- The attention a device computes is the reference's at the device's columns. -/
theorem attnB_eq (d : Dev nD) (r k : Fin 1024) :
    (attnB I d ⟨r / 256, by omega⟩ (ix2 ⟨r % 256, by omega⟩ k) : EReal) = attnG X Wq Wk Wv r (colOf d k) := by
  rw [attnB_apply, attnFirst_eq (rowsD (I.X d) ⟨r / 256, by omega⟩) (colsD (I.Wq d) ⟨k / 128, by omega⟩) (colsD (I.Wk d) ⟨k / 128, by omega⟩)
      (colsD (I.Wv d) ⟨k / 128, by omega⟩) (fun _ _ => rX d _) (fun _ _ => rq d _) (fun _ _ => rk d _),
    cols_eq d k Wq _ (hq d), cols_eq d k Wk _ (hk d), cols_eq d k Wv _ (hv d), hX]
  unfold attnG
  refine congrArg (attnLast _ _ _ _ _) (Fin.ext ?_)
  show k.1 % 128 = (1024 * d.1 + k.1) % 128
  omega

include hX hq ho hk hv rX rq rk in
/-- The kernel's output, element by element, is the reference's. -/
theorem out_eq (r n : Fin 1024) : outC I (ix2 r n) = outG X Wq Wo Wk Wv r n := by
  rw [outC_apply, outG, Attn.inner, sum_cols]
  refine Finset.sum_congr rfl fun d _ => ?_
  unfold part Attn.inner
  refine Finset.sum_congr rfl fun k _ => ?_
  show (attnB I d ⟨r / 256, by omega⟩ (ix2 ⟨r % 256, by omega⟩ k) : EReal) * I.Wo d (ix2 k n) = _
  rw [attnB_eq I X Wq Wk Wv hX hq hk hv rX rq rk, ho, block_rows]

end Cert.Attn
end
-- ==== Proof.lean ====
/-
  The proof of `Cert.Claim`: the three programs run to the end, leave their arguments as they were and every semaphore counter at zero; and over
  the extended reals the kernel's eight devices all end with the reference's result.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Final
public import proofs.«01_k».proof.Proof.Finite
public import proofs.«01_k».proof.Proof.Equation
public import Idealize.ShloMosaic.Adequacy
public import Idealize.ShloMosaic.Init

@[expose] public section

noncomputable section

namespace Cert.Proof

open Idealize.ShloMosaic Idealize.SL.Sem

/-- The kernel's body is the same text in both readings. -/
theorem body_eq : @Cert.Kernel.cc0_body Bits _ _ = @Cert.KernelIdeal.cc0_body Bits _ _ := by
  unfold Cert.Kernel.cc0_body Cert.KernelIdeal.cc0_body
  rfl

/-- So is the table of bodies. -/
theorem bodies_eq : Cert.Kernel.defs₀ (F := Bits) = Cert.KernelIdeal.defs₀ (F := Bits) := by
  unfold Cert.Kernel.defs₀ Cert.KernelIdeal.defs₀
  rw [body_eq]
  refine congrArg Defs.onTc (funext fun x => funext fun a => ?_)
  match x, a with
  | 0, (t, s) => rfl
  | ⟨n + 1, h⟩, _ => exact absurd h (Nat.not_lt.2 (Nat.le_add_left _ _))

/-- And the table of bodies with the launch's own. -/
theorem defs_eq : Cert.Kernel.defs (F := Bits) = Cert.KernelIdeal.defs (F := Bits) := by
  unfold Cert.Kernel.defs Cert.KernelIdeal.defs
  rw [bodies_eq]
  rfl

/-- The kernel over the machine's words runs to the end on all eight devices: its arguments are unchanged, and every counter is zero. -/
theorem frame_kernel : Cert.quiescent_Kernel := by
  intro m ρ _
  rw [defs_eq]
  exact (θ_run Cert.KernelIdeal.defs _ _).mono (fun _ h => h) (Cert.KProof.run_frame (F := Bits) m ρ)

/-- The same of the kernel over the extended reals. -/
theorem frame_kernelIdeal : Cert.quiescent_KernelIdeal := fun m ρ _ =>
  Cert.KProof.run_frame (F := Ideal) m ρ

/-- The reference over the extended reals runs to the end: its arguments are unchanged, and it has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

open Cert.KernelIdeal in
/-- Where the scores are computed from numbers, the kernel's output on every device is the reference's result. -/
theorem out_ref (m : (ℓ : Loc nD τ sig) → Buf (Elt Ideal) ℓ)
    (m' : (ℓ : Loc Cert.ReferenceIdeal.nD Cert.ReferenceIdeal.τ Cert.ReferenceIdeal.sig) → Buf (Elt Ideal) ℓ)
    [Cert.Pre_finite_KernelIdeal.Facts] (hp : Cert.Pre_KernelIdeal_finite_KernelIdeal m)
    (h : ∀ c : Dev nD,
      m (c.tc.loc main_arg0) = m' ((0 : Dev Cert.ReferenceIdeal.nD).tc.loc Cert.ReferenceIdeal.main_arg0)
      ∧ m (c.tc.loc main_arg1) = Layout.block ⟨2, ![1024, 1024]⟩ ⟨2, ![1024, 8192]⟩ 1 8 c (m' ((0 : Dev Cert.ReferenceIdeal.nD).tc.loc Cert.ReferenceIdeal.main_arg1))
      ∧ m (c.tc.loc main_arg2) = Layout.block ⟨2, ![1024, 1024]⟩ ⟨2, ![8192, 1024]⟩ 0 8 c (m' ((0 : Dev Cert.ReferenceIdeal.nD).tc.loc Cert.ReferenceIdeal.main_arg2))
      ∧ m (c.tc.loc main_arg3) = Layout.block ⟨2, ![1024, 1024]⟩ ⟨2, ![1024, 8192]⟩ 1 8 c (m' ((0 : Dev Cert.ReferenceIdeal.nD).tc.loc Cert.ReferenceIdeal.main_arg3))
      ∧ m (c.tc.loc main_arg4) = Layout.block ⟨2, ![1024, 1024]⟩ ⟨2, ![1024, 8192]⟩ 1 8 c (m' ((0 : Dev Cert.ReferenceIdeal.nD).tc.loc Cert.ReferenceIdeal.main_arg4))) :
    (Cert.KProof.outC (Cert.KProof.ins m) : Vec Ideal S1024x1024 .bf16) = Cert.ReferenceIdeal.Value.res_main_v29 (F := Ideal) m' 0 := by
  funext i
  obtain ⟨r, n, rfl⟩ : ∃ r n : Fin 1024, i = ix2 r n := ⟨i 0, i 1, eq_ix2 i⟩
  refine Eq.trans ?_ (Cert.RProof.ref_apply m' 0 r n).symm
  have hr := fun c => Cert.Attn.pre_real _ _ _ _ _ (hp c)
  exact Cert.Attn.out_eq (Cert.KProof.ins m) _ _ _ _ _
    (fun c => (Cert.KProof.ins_X m c).trans (h c).1)
    (fun c => (Cert.KProof.ins_Wq m c).trans (h c).2.1)
    (fun c => (Cert.KProof.ins_Wo m c).trans (h c).2.2.1)
    (fun c => (Cert.KProof.ins_Wk m c).trans (h c).2.2.2.1)
    (fun c => (Cert.KProof.ins_Wv m c).trans (h c).2.2.2.2)
    (fun c j => by rw [Cert.KProof.ins_X]; exact (hr c).1 j)
    (fun c j => by rw [Cert.KProof.ins_Wq]; exact (hr c).2.1 j)
    (fun c j => by rw [Cert.KProof.ins_Wk]; exact (hr c).2.2 j) r n

/-- The kernel and the reference compute the same over the extended reals. -/
theorem algebraic [Cert.Pre_finite_KernelIdeal.Facts] : Cert.algebraic_KernelIdeal_ReferenceIdeal_pre_finite_KernelIdeal := by
  intro m g m' g' hp h
  refine ⟨Cert.ReferenceIdeal.Value.res_main_v29 (F := Ideal) m' 0, ?_, ?_⟩
  · refine (θ_run Cert.KernelIdeal.defs _ _).mono (fun r hr c => ?_) (Cert.KProof.run_main (F := Ideal) m g)
    have ha := Cert.KProof.args_kept m r hr.1 c
    exact ⟨((hr.1 c 5).trans (Cert.KProof.finalA_out m c)).trans (out_ref m m' hp h), ha⟩
  · exact (θ_run Cert.ReferenceIdeal.defs _ _).mono (fun r hr => hr 0) (Cert.ReferenceIdeal.Value.run m' g')

/-- All the claims. -/
theorem claim : Cert.Claim := ⟨Cert.Kernel.Gen.facts, Cert.KernelIdeal.Gen.facts, Cert.ReferenceIdeal.Gen.facts,
  Cert.Attn.factsKernel, Cert.Attn.factsReference, frame_kernel, frame_kernelIdeal, fun m ρ _ => frame_kernelIdeal m ρ trivial, frame_reference,
  fun m ρ _ => frame_reference m ρ trivial, trivial, @algebraic Cert.Attn.factsKernel⟩

end Cert.Proof

end
